-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 4096]⟩ ⟨2, ![8192, 4096]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S4096x4096 : Shape := ⟨2, ![4096, 4096]⟩
abbrev S2x128x4096 : Shape := ⟨3, ![2, 128, 4096]⟩
abbrev S4x128x4096 : Shape := ⟨3, ![4, 128, 4096]⟩
abbrev S2048x4096 : Shape := ⟨2, ![2048, 4096]⟩
abbrev S2 : Shape := ⟨1, ![2]⟩
abbrev S4 : Shape := ⟨1, ![4]⟩
abbrev S16 : Shape := ⟨1, ![16]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 3
  | .vmem => 8
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096x4096, .f32⟩
  | .local _ .vmem, ⟨0, _⟩ => ⟨S4096, .f32⟩
  | .local _ .vmem, ⟨1, _⟩ => ⟨S2x128x4096, .f32⟩
  | .local _ .vmem, ⟨2, _⟩ => ⟨S2x128x4096, .f32⟩
  | .local _ .vmem, ⟨3, _⟩ => ⟨S4x128x4096, .bf16⟩
  | .local _ .vmem, ⟨4, _⟩ => ⟨S2048x4096, .bf16⟩
  | .local _ .vmem, ⟨5, _⟩ => ⟨S4x128x4096, .bf16⟩
  | .local _ .vmem, ⟨6, _⟩ => ⟨S2048x4096, .bf16⟩
  | .local _ .vmem, ⟨7, _⟩ => ⟨S2x128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_14 : BitVec 32) : Fin 3 → Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v19 : BitVec 32 := Scalar.muli v2 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v20 : BitVec 32 := Scalar.muli v5 c2048_i32
  let v21 : BitVec 32 := Scalar.addi v19 v20
  let v25 : BitVec 32 := Scalar.addi v21 c0_i32_14
  let c0_i32_20 : BitVec 32 := 0#32
  ![0, v25.toNat, 0]
def k0_off2 (d0 : Dev nD) (c0_i32_21 : BitVec 32) : Fin 3 → Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c4096_i32_12 : BitVec 32 := 4096#32
  let v22 : BitVec 32 := Scalar.muli v6 c4096_i32_12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_13 : BitVec 32 := 2048#32
  let v23 : BitVec 32 := Scalar.muli v5 c2048_i32_13
  let v24 : BitVec 32 := Scalar.addi v22 v23
  let v32 : BitVec 32 := Scalar.addi v24 c0_i32_21
  let c0_i32_27 : BitVec 32 := 0#32
  ![0, v32.toNat, 0]
def k0_dev3 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v58 : BitVec 32 := Scalar.muli v6 c2_i32_49
  let v59 : BitVec 32 := Scalar.addi c0_i32_50 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v60 : BitVec 32 := Scalar.muli v5 c1_i32_51
  let v61 : BitVec 32 := Scalar.addi v59 v60
  v61.toNat
def k0_dev4 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v88 : BitVec 32 := Scalar.muli v6 c2_i32_76
  let v89 : BitVec 32 := Scalar.addi c0_i32_77 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v90 : BitVec 32 := Scalar.muli v5 c1_i32_78
  let v91 : BitVec 32 := Scalar.addi v89 v90
  v91.toNat
def k0_dev5 (d0 : Dev nD) : Nat :=
  let c0_i32_104 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_103 : BitVec 32 := 2#32
  let v118 : BitVec 32 := Scalar.muli v6 c2_i32_103
  let v119 : BitVec 32 := Scalar.addi c0_i32_104 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v120 : BitVec 32 := Scalar.muli v5 c1_i32_105
  let v121 : BitVec 32 := Scalar.addi v119 v120
  v121.toNat
def k0_dev6 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v148 : BitVec 32 := Scalar.muli v6 c2_i32_129
  let v149 : BitVec 32 := Scalar.addi c0_i32_130 v148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v150 : BitVec 32 := Scalar.muli v5 c1_i32_131
  let v151 : BitVec 32 := Scalar.addi v149 v150
  v151.toNat
def k0_off3 (d0 : Dev nD) (c0_i32_167 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_166 : BitVec 32 := 2048#32
  let v199 : BitVec 32 := Scalar.muli v5 c2048_i32_166
  let v200 : BitVec 32 := Scalar.addi v199 c0_i32_167
  let c0_i32_173 : BitVec 32 := 0#32
  ![v200.toNat, 0]
def k0_dev7 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v213 : BitVec 32 := Scalar.muli v2 c2_i32_182
  let v214 : BitVec 32 := Scalar.addi c0_i32_183 v213
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_184 : BitVec 32 := 1#32
  let v215 : BitVec 32 := Scalar.muli v7 c1_i32_184
  let v216 : BitVec 32 := Scalar.addi v214 v215
  v216.toNat
def k0_dev8 (d0 : Dev nD) : Nat :=
  let c0_i32_218 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_217 : BitVec 32 := 2#32
  let v248 : BitVec 32 := Scalar.muli v6 c2_i32_217
  let v249 : BitVec 32 := Scalar.addi c0_i32_218 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v250 : BitVec 32 := Scalar.muli v5 c1_i32_219
  let v251 : BitVec 32 := Scalar.addi v249 v250
  v251.toNat
def k0_dev9 (d0 : Dev nD) : Nat :=
  let c0_i32_271 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_270 : BitVec 32 := 2#32
  let v313 : BitVec 32 := Scalar.muli v2 c2_i32_270
  let v314 : BitVec 32 := Scalar.addi c0_i32_271 v313
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_272 : BitVec 32 := 1#32
  let v315 : BitVec 32 := Scalar.muli v7 c1_i32_272
  let v316 : BitVec 32 := Scalar.addi v314 v315
  v316.toNat
def k0_dev10 (d0 : Dev nD) : Nat :=
  let c0_i32_306 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_305 : BitVec 32 := 2#32
  let v348 : BitVec 32 := Scalar.muli v6 c2_i32_305
  let v349 : BitVec 32 := Scalar.addi c0_i32_306 v348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_307 : BitVec 32 := 1#32
  let v350 : BitVec 32 := Scalar.muli v5 c1_i32_307
  let v351 : BitVec 32 := Scalar.addi v349 v350
  v351.toNat
def k0_dev11 (d0 : Dev nD) : Nat :=
  let c0_i32_364 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_363 : BitVec 32 := 2#32
  let v418 : BitVec 32 := Scalar.muli v2 c2_i32_363
  let v419 : BitVec 32 := Scalar.addi c0_i32_364 v418
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_365 : BitVec 32 := 1#32
  let v420 : BitVec 32 := Scalar.muli v7 c1_i32_365
  let v421 : BitVec 32 := Scalar.addi v419 v420
  v421.toNat
def k0_off4 (d0 : Dev nD) (c0_i32_381 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32_380 : BitVec 32 := 2048#32
  let v438 : BitVec 32 := Scalar.muli v7 c2048_i32_380
  let v439 : BitVec 32 := Scalar.addi v438 c0_i32_381
  let c0_i32_394 : BitVec 32 := 0#32
  ![v439.toNat, 0]
def k0_dev12 (d0 : Dev nD) : Nat :=
  let c0_i32_426 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_425 : BitVec 32 := 2#32
  let v479 : BitVec 32 := Scalar.muli v6 c2_i32_425
  let v480 : BitVec 32 := Scalar.addi c0_i32_426 v479
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_427 : BitVec 32 := 1#32
  let v481 : BitVec 32 := Scalar.muli v5 c1_i32_427
  let v482 : BitVec 32 := Scalar.addi v480 v481
  v482.toNat
def k0_dev13 (d0 : Dev nD) : Nat :=
  let c0_i32_484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_483 : BitVec 32 := 2#32
  let v549 : BitVec 32 := Scalar.muli v2 c2_i32_483
  let v550 : BitVec 32 := Scalar.addi c0_i32_484 v549
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_485 : BitVec 32 := 1#32
  let v551 : BitVec 32 := Scalar.muli v7 c1_i32_485
  let v552 : BitVec 32 := Scalar.addi v550 v551
  v552.toNat
def k0_dev14 (d0 : Dev nD) : Nat :=
  let c0_i32_546 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_545 : BitVec 32 := 2#32
  let v610 : BitVec 32 := Scalar.muli v6 c2_i32_545
  let v611 : BitVec 32 := Scalar.addi c0_i32_546 v610
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_547 : BitVec 32 := 1#32
  let v612 : BitVec 32 := Scalar.muli v5 c1_i32_547
  let v613 : BitVec 32 := Scalar.addi v611 v612
  v613.toNat
def k0_dev15 (d0 : Dev nD) : Nat :=
  let c0_i32_612 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_611 : BitVec 32 := 2#32
  let v685 : BitVec 32 := Scalar.muli v2 c2_i32_611
  let v686 : BitVec 32 := Scalar.addi c0_i32_612 v685
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_613 : BitVec 32 := 1#32
  let v687 : BitVec 32 := Scalar.muli v7 c1_i32_613
  let v688 : BitVec 32 := Scalar.addi v686 v687
  v688.toNat
def k0_dev16 (d0 : Dev nD) : Nat :=
  let c0_i32_674 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_673 : BitVec 32 := 2#32
  let v746 : BitVec 32 := Scalar.muli v6 c2_i32_673
  let v747 : BitVec 32 := Scalar.addi c0_i32_674 v746
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_675 : BitVec 32 := 1#32
  let v748 : BitVec 32 := Scalar.muli v5 c1_i32_675
  let v749 : BitVec 32 := Scalar.addi v747 v748
  v749.toNat
def k0_dev17 (d0 : Dev nD) : Nat :=
  let c0_i32_740 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_739 : BitVec 32 := 2#32
  let v821 : BitVec 32 := Scalar.muli v2 c2_i32_739
  let v822 : BitVec 32 := Scalar.addi c0_i32_740 v821
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_741 : BitVec 32 := 1#32
  let v823 : BitVec 32 := Scalar.muli v7 c1_i32_741
  let v824 : BitVec 32 := Scalar.addi v822 v823
  v824.toNat
def k0_dev18 (d0 : Dev nD) : Nat :=
  let c0_i32_802 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_801 : BitVec 32 := 2#32
  let v882 : BitVec 32 := Scalar.muli v6 c2_i32_801
  let v883 : BitVec 32 := Scalar.addi c0_i32_802 v882
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_803 : BitVec 32 := 1#32
  let v884 : BitVec 32 := Scalar.muli v5 c1_i32_803
  let v885 : BitVec 32 := Scalar.addi v883 v884
  v885.toNat
def k0_dev19 (d0 : Dev nD) : Nat :=
  let c0_i32_868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_867 : BitVec 32 := 2#32
  let v957 : BitVec 32 := Scalar.muli v2 c2_i32_867
  let v958 : BitVec 32 := Scalar.addi c0_i32_868 v957
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_869 : BitVec 32 := 1#32
  let v959 : BitVec 32 := Scalar.muli v7 c1_i32_869
  let v960 : BitVec 32 := Scalar.addi v958 v959
  v960.toNat
def k0_dev20 (d0 : Dev nD) : Nat :=
  let c0_i32_930 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_929 : BitVec 32 := 2#32
  let v1018 : BitVec 32 := Scalar.muli v6 c2_i32_929
  let v1019 : BitVec 32 := Scalar.addi c0_i32_930 v1018
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_931 : BitVec 32 := 1#32
  let v1020 : BitVec 32 := Scalar.muli v5 c1_i32_931
  let v1021 : BitVec 32 := Scalar.addi v1019 v1020
  v1021.toNat
def k0_dev21 (d0 : Dev nD) : Nat :=
  let c0_i32_996 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_995 : BitVec 32 := 2#32
  let v1093 : BitVec 32 := Scalar.muli v2 c2_i32_995
  let v1094 : BitVec 32 := Scalar.addi c0_i32_996 v1093
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_997 : BitVec 32 := 1#32
  let v1095 : BitVec 32 := Scalar.muli v7 c1_i32_997
  let v1096 : BitVec 32 := Scalar.addi v1094 v1095
  v1096.toNat
def k0_dev22 (d0 : Dev nD) : Nat :=
  let c0_i32_1058 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1057 : BitVec 32 := 2#32
  let v1154 : BitVec 32 := Scalar.muli v6 c2_i32_1057
  let v1155 : BitVec 32 := Scalar.addi c0_i32_1058 v1154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1059 : BitVec 32 := 1#32
  let v1156 : BitVec 32 := Scalar.muli v5 c1_i32_1059
  let v1157 : BitVec 32 := Scalar.addi v1155 v1156
  v1157.toNat
def k0_dev23 (d0 : Dev nD) : Nat :=
  let c0_i32_1124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1123 : BitVec 32 := 2#32
  let v1229 : BitVec 32 := Scalar.muli v2 c2_i32_1123
  let v1230 : BitVec 32 := Scalar.addi c0_i32_1124 v1229
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1125 : BitVec 32 := 1#32
  let v1231 : BitVec 32 := Scalar.muli v7 c1_i32_1125
  let v1232 : BitVec 32 := Scalar.addi v1230 v1231
  v1232.toNat
def k0_dev24 (d0 : Dev nD) : Nat :=
  let c0_i32_1186 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1185 : BitVec 32 := 2#32
  let v1290 : BitVec 32 := Scalar.muli v6 c2_i32_1185
  let v1291 : BitVec 32 := Scalar.addi c0_i32_1186 v1290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1187 : BitVec 32 := 1#32
  let v1292 : BitVec 32 := Scalar.muli v5 c1_i32_1187
  let v1293 : BitVec 32 := Scalar.addi v1291 v1292
  v1293.toNat
def k0_dev25 (d0 : Dev nD) : Nat :=
  let c0_i32_1252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1251 : BitVec 32 := 2#32
  let v1365 : BitVec 32 := Scalar.muli v2 c2_i32_1251
  let v1366 : BitVec 32 := Scalar.addi c0_i32_1252 v1365
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1253 : BitVec 32 := 1#32
  let v1367 : BitVec 32 := Scalar.muli v7 c1_i32_1253
  let v1368 : BitVec 32 := Scalar.addi v1366 v1367
  v1368.toNat
def k0_dev26 (d0 : Dev nD) : Nat :=
  let c0_i32_1314 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1313 : BitVec 32 := 2#32
  let v1426 : BitVec 32 := Scalar.muli v6 c2_i32_1313
  let v1427 : BitVec 32 := Scalar.addi c0_i32_1314 v1426
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1315 : BitVec 32 := 1#32
  let v1428 : BitVec 32 := Scalar.muli v5 c1_i32_1315
  let v1429 : BitVec 32 := Scalar.addi v1427 v1428
  v1429.toNat
def k0_dev27 (d0 : Dev nD) : Nat :=
  let c0_i32_1380 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1379 : BitVec 32 := 2#32
  let v1501 : BitVec 32 := Scalar.muli v2 c2_i32_1379
  let v1502 : BitVec 32 := Scalar.addi c0_i32_1380 v1501
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1381 : BitVec 32 := 1#32
  let v1503 : BitVec 32 := Scalar.muli v7 c1_i32_1381
  let v1504 : BitVec 32 := Scalar.addi v1502 v1503
  v1504.toNat
def k0_dev28 (d0 : Dev nD) : Nat :=
  let c0_i32_1442 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1441 : BitVec 32 := 2#32
  let v1562 : BitVec 32 := Scalar.muli v6 c2_i32_1441
  let v1563 : BitVec 32 := Scalar.addi c0_i32_1442 v1562
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1443 : BitVec 32 := 1#32
  let v1564 : BitVec 32 := Scalar.muli v5 c1_i32_1443
  let v1565 : BitVec 32 := Scalar.addi v1563 v1564
  v1565.toNat
def k0_dev29 (d0 : Dev nD) : Nat :=
  let c0_i32_1508 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1507 : BitVec 32 := 2#32
  let v1637 : BitVec 32 := Scalar.muli v2 c2_i32_1507
  let v1638 : BitVec 32 := Scalar.addi c0_i32_1508 v1637
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1509 : BitVec 32 := 1#32
  let v1639 : BitVec 32 := Scalar.muli v7 c1_i32_1509
  let v1640 : BitVec 32 := Scalar.addi v1638 v1639
  v1640.toNat
def k0_dev30 (d0 : Dev nD) : Nat :=
  let c0_i32_1564 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1563 : BitVec 32 := 2#32
  let v1691 : BitVec 32 := Scalar.muli v6 c2_i32_1563
  let v1692 : BitVec 32 := Scalar.addi c0_i32_1564 v1691
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1565 : BitVec 32 := 1#32
  let v1693 : BitVec 32 := Scalar.muli v5 c1_i32_1565
  let v1694 : BitVec 32 := Scalar.addi v1692 v1693
  v1694.toNat
def k0_dev31 (d0 : Dev nD) : Nat :=
  let c0_i32_1630 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1629 : BitVec 32 := 2#32
  let v1766 : BitVec 32 := Scalar.muli v2 c2_i32_1629
  let v1767 : BitVec 32 := Scalar.addi c0_i32_1630 v1766
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1631 : BitVec 32 := 1#32
  let v1768 : BitVec 32 := Scalar.muli v7 c1_i32_1631
  let v1769 : BitVec 32 := Scalar.addi v1767 v1768
  v1769.toNat
def k0_dev32 (d0 : Dev nD) : Nat :=
  let c0_i32_1723 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1722 : BitVec 32 := 2#32
  let v1867 : BitVec 32 := Scalar.muli v2 c2_i32_1722
  let v1868 : BitVec 32 := Scalar.addi c0_i32_1723 v1867
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1724 : BitVec 32 := 1#32
  let v1869 : BitVec 32 := Scalar.muli v7 c1_i32_1724
  let v1870 : BitVec 32 := Scalar.addi v1868 v1869
  v1870.toNat
def k0_dev33 (d0 : Dev nD) : Nat :=
  let c0_i32_1816 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1815 : BitVec 32 := 2#32
  let v1968 : BitVec 32 := Scalar.muli v2 c2_i32_1815
  let v1969 : BitVec 32 := Scalar.addi c0_i32_1816 v1968
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1817 : BitVec 32 := 1#32
  let v1970 : BitVec 32 := Scalar.muli v7 c1_i32_1817
  let v1971 : BitVec 32 := Scalar.addi v1969 v1970
  v1971.toNat
def k0_dev34 (d0 : Dev nD) : Nat :=
  let c0_i32_1902 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1901 : BitVec 32 := 2#32
  let v2062 : BitVec 32 := Scalar.muli v2 c2_i32_1901
  let v2063 : BitVec 32 := Scalar.addi c0_i32_1902 v2062
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1903 : BitVec 32 := 1#32
  let v2064 : BitVec 32 := Scalar.muli v7 c1_i32_1903
  let v2065 : BitVec 32 := Scalar.addi v2063 v2064
  v2065.toNat
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/- The kernel's body as a composition of a few steps that take the chunk's number as an argument, and the proof
   that the printed body is that composition.

   Per chunk `k` of the first exchange (`tstep`): bring the chunk of the other half in, narrow it, send it to the
   device that differs in the first mesh coordinate. Per chunk `j` of the second (`mstep`): bring the own chunk in,
   add what has arrived, normalise, write the result out, narrow it and send it to the device that differs in the
   second coordinate; then write out an earlier chunk that has arrived from there (`drain`). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-- A program of the TensorCore that returns nothing. -/
abbrev P (F : FTy → Type) [FloatOps F] : Type 1 := Prog (TpuEff nD τ sig (Elt F) Λ₀ .tc) PUnit

/-! ## Buffers -/

abbrev argM : Memref sig .tc .hbm S1x8192x4096 .f32 := Memref.whole main_arg0
abbrev outM : Memref sig .tc .hbm S4096x4096 .f32 := Memref.whole main_v1
abbrev gamM : Memref sig .tc .vmem S4096 .f32 := Memref.whole cc0_stg0_0
abbrev mineM : Memref sig .tc .vmem S2x128x4096 .f32 := Memref.whole cc0_scratch0
abbrev theirsM : Memref sig .tc .vmem S2x128x4096 .f32 := Memref.whole cc0_scratch1
abbrev xsendM : Memref sig .tc .vmem S4x128x4096 .bf16 := Memref.whole cc0_scratch2
abbrev xrecvM : Memref sig .tc .vmem S2048x4096 .bf16 := Memref.whole cc0_scratch3
abbrev ysendM : Memref sig .tc .vmem S4x128x4096 .bf16 := Memref.whole cc0_scratch4
abbrev yrecvM : Memref sig .tc .vmem S2048x4096 .bf16 := Memref.whole cc0_scratch5
abbrev outcM : Memref sig .tc .vmem S2x128x4096 .f32 := Memref.whole cc0_scratch6

/-! ## Rectangles: the slots of the small buffers, the chunks of the large ones -/

/-- Slot `k % 2` lies in a two-slot buffer. -/
theorem inb2 (k : ℕ) : ∀ a, (![k % 2, 0, 0] : Fin 3 → Nat) a + S1x128x4096.size a ≤ S2x128x4096.size a :=
  (by decide : ∀ i : Fin 2, ∀ a, (![i.val, 0, 0] : Fin 3 → Nat) a + S1x128x4096.size a ≤ S2x128x4096.size a) ⟨k % 2, Nat.mod_lt _ (by decide)⟩
/-- Slot `k % 4` lies in a four-slot buffer. -/
theorem inb4 (k : ℕ) : ∀ a, (![k % 4, 0, 0] : Fin 3 → Nat) a + S1x128x4096.size a ≤ S4x128x4096.size a :=
  (by decide : ∀ i : Fin 4, ∀ a, (![i.val, 0, 0] : Fin 3 → Nat) a + S1x128x4096.size a ≤ S4x128x4096.size a) ⟨k % 4, Nat.mod_lt _ (by decide)⟩
/-- Rows `128 * (k % 16)` and the 127 after them lie in a receive buffer. -/
theorem inb16 (k : ℕ) : ∀ a, (![128 * (k % 16), 0] : Fin 2 → Nat) a + S128x4096.size a ≤ S2048x4096.size a :=
  (by decide : ∀ i : Fin 16, ∀ a, (![128 * i.val, 0] : Fin 2 → Nat) a + S128x4096.size a ≤ S2048x4096.size a) ⟨k % 16, Nat.mod_lt _ (by decide)⟩

abbrev rect2 (k : ℕ) : Rect S2x128x4096 := Rect.unit (s := S2x128x4096) ![k % 2, 0, 0] S1x128x4096.size (inb2 k)
abbrev rect4 (k : ℕ) : Rect S4x128x4096 := Rect.unit (s := S4x128x4096) ![k % 4, 0, 0] S1x128x4096.size (inb4 k)
abbrev rect16 (k : ℕ) : Rect S2048x4096 := Rect.unit (s := S2048x4096) ![128 * (k % 16), 0] S128x4096.size (inb16 k)

/-- Each of the four slots lies in its buffer. -/
theorem inbF4 : ∀ i : Fin 4, ∀ a, (![i.val, 0, 0] : Fin 3 → Nat) a + S1x128x4096.size a ≤ S4x128x4096.size a := by decide
/-- Each of the sixteen chunks lies in its buffer. -/
theorem inbF16 : ∀ i : Fin 16, ∀ a, (![128 * i.val, 0] : Fin 2 → Nat) a + S128x4096.size a ≤ S2048x4096.size a := by decide
/-- A slot of a send buffer covers whole words of two narrow floats. -/
theorem words4 (k : ℕ) : (rect4 k).WholeWords (EltTy.packing .bf16) :=
  (by decide : ∀ i : Fin 4, (Rect.unit (s := S4x128x4096) ![i.val, 0, 0] S1x128x4096.size (inbF4 i)).WholeWords (EltTy.packing .bf16)) ⟨k % 4, Nat.mod_lt _ (by decide)⟩
/-- The rows of a slot of a send buffer are packed whole. -/
theorem packed4 (k : ℕ) : (rect4 k).PackedRows (EltTy.packing .bf16) :=
  (by decide : ∀ i : Fin 4, (Rect.unit (s := S4x128x4096) ![i.val, 0, 0] S1x128x4096.size (inbF4 i)).PackedRows (EltTy.packing .bf16)) ⟨k % 4, Nat.mod_lt _ (by decide)⟩
/-- A chunk of a receive buffer covers whole words of two narrow floats. -/
theorem words16 (k : ℕ) : (rect16 k).WholeWords (EltTy.packing .bf16) :=
  (by decide : ∀ i : Fin 16, (Rect.unit (s := S2048x4096) ![128 * i.val, 0] S128x4096.size (inbF16 i)).WholeWords (EltTy.packing .bf16)) ⟨k % 16, Nat.mod_lt _ (by decide)⟩

/-- Slot `k % 2` of a two-slot buffer, as a matrix. -/
abbrev slot2 (M : Memref sig .tc .vmem S2x128x4096 .f32) (k : ℕ) : Memref sig .tc .vmem S128x4096 .f32 :=
  (M.slice (rect2 k) (fun _ => rfl)).squeeze S128x4096 squeezes_S1x128x4096_S128x4096
/-- Slot `k % 4` of a four-slot buffer, as a matrix. -/
abbrev slot4 (M : Memref sig .tc .vmem S4x128x4096 .bf16) (k : ℕ) : Memref sig .tc .vmem S128x4096 .bf16 :=
  (M.slice (rect4 k) (fun _ => rfl)).squeeze S128x4096 squeezes_S1x128x4096_S128x4096
/-- Chunk `k` of a receive buffer. -/
abbrev chunk (M : Memref sig .tc .vmem S2048x4096 .bf16) (k : ℕ) : Memref sig .tc .vmem S128x4096 .bf16 :=
  M.slice (rect16 k) (fun _ => rfl)

abbrev r16 (k : ℕ) : Fin 16 := ⟨k % 16, Nat.mod_lt _ (by decide)⟩

abbrev mrect (c : Dev nD) (k : ℕ) : Rect S1x8192x4096 :=
  Rect.unit (s := S1x8192x4096) (k0_off1 c (BitVec.ofNat 32 (128 * (k % 16)))) S1x128x4096.size (k0_off1_inb c (r16 k))
abbrev trect (c : Dev nD) (k : ℕ) : Rect S1x8192x4096 :=
  Rect.unit (s := S1x8192x4096) (k0_off2 c (BitVec.ofNat 32 (128 * (k % 16)))) S1x128x4096.size (k0_off2_inb c (r16 k))
/-- Rows of the argument that device `c` keeps, chunk `k`. -/
abbrev mrow (c : Dev nD) (k : ℕ) : Memref sig .tc .hbm S128x4096 .f32 :=
  (argM.slice (mrect c k) (fun _ => rfl)).squeeze S128x4096 squeezes_S1x128x4096_S128x4096
/-- Rows of the argument that device `c` gives away, chunk `k`. -/
abbrev trow (c : Dev nD) (k : ℕ) : Memref sig .tc .hbm S128x4096 .f32 :=
  (argM.slice (trect c k) (fun _ => rfl)).squeeze S128x4096 squeezes_S1x128x4096_S128x4096

/-- Rows of the result: chunk `p.2` of the half device `c` computes (`p.1 = false`) or of the half that arrives. -/
def orect (c : Dev nD) : Bool × ℕ → Rect S4096x4096
  | (false, j) => Rect.unit (s := S4096x4096) (k0_off3 c (BitVec.ofNat 32 (128 * (j % 16)))) S128x4096.size (k0_off3_inb c (r16 j))
  | (true, j) => Rect.unit (s := S4096x4096) (k0_off4 c (BitVec.ofNat 32 (128 * (j % 16)))) S128x4096.size (k0_off4_inb c (r16 j))
abbrev orow3 (c : Dev nD) (j : ℕ) : Memref sig .tc .hbm S128x4096 .f32 :=
  outM.slice (Rect.unit (s := S4096x4096) (k0_off3 c (BitVec.ofNat 32 (128 * (j % 16)))) S128x4096.size (k0_off3_inb c (r16 j))) (fun _ => rfl)
abbrev orow4 (c : Dev nD) (j : ℕ) : Memref sig .tc .hbm S128x4096 .f32 :=
  outM.slice (Rect.unit (s := S4096x4096) (k0_off4 c (BitVec.ofNat 32 (128 * (j % 16)))) S128x4096.size (k0_off4_inb c (r16 j))) (fun _ => rfl)
def orow (c : Dev nD) : Bool × ℕ → Memref sig .tc .hbm S128x4096 .f32
  | (false, j) => orow3 c j
  | (true, j) => orow4 c j

/-! ## Semaphores -/

/-- Semaphore `k % 2` is one of an array of two. -/
theorem inbs2 (k : ℕ) : ∀ a, (![k % 2] : Fin 1 → Nat) a + S1.size a ≤ S2.size a :=
  (by decide : ∀ i : Fin 2, ∀ a, (![i.val] : Fin 1 → Nat) a + S1.size a ≤ S2.size a) ⟨k % 2, Nat.mod_lt _ (by decide)⟩
/-- Semaphore `k % 4` is one of an array of four. -/
theorem inbs4 (k : ℕ) : ∀ a, (![k % 4] : Fin 1 → Nat) a + S1.size a ≤ S4.size a :=
  (by decide : ∀ i : Fin 4, ∀ a, (![i.val] : Fin 1 → Nat) a + S1.size a ≤ S4.size a) ⟨k % 4, Nat.mod_lt _ (by decide)⟩
/-- Semaphore `k % 16` is one of an array of sixteen. -/
theorem inbs16 (k : ℕ) : ∀ a, (![k % 16] : Fin 1 → Nat) a + S1.size a ≤ S16.size a :=
  (by decide : ∀ i : Fin 16, ∀ a, (![i.val] : Fin 1 → Nat) a + S1.size a ≤ S16.size a) ⟨k % 16, Nat.mod_lt _ (by decide)⟩

abbrev sem2 (A : DmaSems sig S2) (k : ℕ) : DmaSem sig := ((A.slice (Rect.unit (s := S2) ![k % 2] S1.size (inbs2 k))).squeeze S_ squeezes_S1_S_).sem
abbrev sem4 (A : DmaSems sig S4) (k : ℕ) : DmaSem sig := ((A.slice (Rect.unit (s := S4) ![k % 4] S1.size (inbs4 k))).squeeze S_ squeezes_S1_S_).sem
abbrev sem16 (A : DmaSems sig S16) (k : ℕ) : DmaSem sig := ((A.slice (Rect.unit (s := S16) ![k % 16] S1.size (inbs16 k))).squeeze S_ squeezes_S1_S_).sem

abbrev smine (k : ℕ) : DmaSem sig := sem2 cc0_scratch7 k
abbrev stheirs (k : ℕ) : DmaSem sig := sem2 cc0_scratch8 k
abbrev sx (k : ℕ) : DmaSem sig := sem4 cc0_scratch9 k
abbrev rx (k : ℕ) : DmaSem sig := sem16 cc0_scratch10 k
abbrev sy (k : ℕ) : DmaSem sig := sem4 cc0_scratch11 k
abbrev ry (k : ℕ) : DmaSem sig := sem16 cc0_scratch12 k
abbrev so (k : ℕ) : DmaSem sig := sem2 cc0_scratch13 k
abbrev barS : Sem sig := (SemArray.scalar (sig.barrier 0 rfl) : Sems sig S_).sem

/-! ## The devices the remote copies address, as the kernel computes them -/

/-- The device chunk `k` of the first exchange goes to. -/
def dX (k : ℕ) (c : Dev nD) : Dev nD := match k with
  | 0 => ⟨k0_dev3 c, k0_dev3_lt c⟩ | 1 => ⟨k0_dev4 c, k0_dev4_lt c⟩ | 2 => ⟨k0_dev5 c, k0_dev5_lt c⟩ | 3 => ⟨k0_dev6 c, k0_dev6_lt c⟩
  | 4 => ⟨k0_dev8 c, k0_dev8_lt c⟩ | 5 => ⟨k0_dev10 c, k0_dev10_lt c⟩ | 6 => ⟨k0_dev12 c, k0_dev12_lt c⟩ | 7 => ⟨k0_dev14 c, k0_dev14_lt c⟩
  | 8 => ⟨k0_dev16 c, k0_dev16_lt c⟩ | 9 => ⟨k0_dev18 c, k0_dev18_lt c⟩ | 10 => ⟨k0_dev20 c, k0_dev20_lt c⟩ | 11 => ⟨k0_dev22 c, k0_dev22_lt c⟩
  | 12 => ⟨k0_dev24 c, k0_dev24_lt c⟩ | 13 => ⟨k0_dev26 c, k0_dev26_lt c⟩ | 14 => ⟨k0_dev28 c, k0_dev28_lt c⟩ | _ => ⟨k0_dev30 c, k0_dev30_lt c⟩
/-- The device chunk `k` of the second exchange goes to. -/
def dY (k : ℕ) (c : Dev nD) : Dev nD := match k with
  | 0 => ⟨k0_dev7 c, k0_dev7_lt c⟩ | 1 => ⟨k0_dev9 c, k0_dev9_lt c⟩ | 2 => ⟨k0_dev11 c, k0_dev11_lt c⟩ | 3 => ⟨k0_dev13 c, k0_dev13_lt c⟩
  | 4 => ⟨k0_dev15 c, k0_dev15_lt c⟩ | 5 => ⟨k0_dev17 c, k0_dev17_lt c⟩ | 6 => ⟨k0_dev19 c, k0_dev19_lt c⟩ | 7 => ⟨k0_dev21 c, k0_dev21_lt c⟩
  | 8 => ⟨k0_dev23 c, k0_dev23_lt c⟩ | 9 => ⟨k0_dev25 c, k0_dev25_lt c⟩ | 10 => ⟨k0_dev27 c, k0_dev27_lt c⟩ | 11 => ⟨k0_dev29 c, k0_dev29_lt c⟩
  | 12 => ⟨k0_dev31 c, k0_dev31_lt c⟩ | 13 => ⟨k0_dev32 c, k0_dev32_lt c⟩ | 14 => ⟨k0_dev33 c, k0_dev33_lt c⟩ | _ => ⟨k0_dev34 c, k0_dev34_lt c⟩

/-! ## What is computed -/

/-- A chunk narrowed for sending. -/
abbrev xpay (v : Vec F S1x128x4096 .f32) : FVec F S1x128x4096 .bf16 := k0_pay2 v
/-- The normalised rows: own chunk plus what arrived. -/
abbrev opay (g : FVec F S4096 .f32) (v : Vec F S1x128x4096 .f32) (x : Vec F S128x4096 .bf16) : FVec F S128x4096 .f32 := k0_pay8 g v x
/-- Rows put in a slot's shape. -/
abbrev slotPay (v : FVec F S128x4096 .f32) : FVec F S1x128x4096 .f32 := k0_pay92 v
/-- Rows narrowed for sending, in a slot's shape. -/
abbrev ypay (v : FVec F S128x4096 .f32) : FVec F S1x128x4096 .bf16 := k0_pay10 v
/-- Arrived rows widened. -/
abbrev wide (v : Vec F S128x4096 .bf16) : FVec F S128x4096 .f32 := k0_pay91 v

/-! ## The steps -/

/-- Start bringing rows `src` into slot `dst`. -/
abbrev ldStart (src : Memref sig .tc .hbm S128x4096 .f32) (dst : Memref sig .tc .vmem S128x4096 .f32) (sm : DmaSem sig) (K : P F) : P F :=
  .op (.enqueueDma src (.here dst) (.dma sm) (View.wordExact_bits rfl) (View.wordExact_bits rfl) ⟨Or.inl rfl, trivial⟩) fun _ => K
/-- Wait until they are there. -/
abbrev ldWait (src : Memref sig .tc .hbm S128x4096 .f32) (dst : Memref sig .tc .vmem S128x4096 .f32) (sm : DmaSem sig) (K : P F) : P F :=
  .op (.waitDma2 sm src dst (View.wordExact_bits rfl) (View.wordExact_bits rfl)) fun _ => K
/-- Read slot `k % 2`. -/
abbrev get2 (M : Memref sig .tc .vmem S2x128x4096 .f32) (k : ℕ) (K : Vec F S1x128x4096 .f32 → P F) : P F :=
  .op (.load M (rect2 k).toLoadRect (View.loadsAt_vmem h_S1x128x4096)) K
abbrev put2 (M : Memref sig .tc .vmem S2x128x4096 .f32) (k : ℕ) (w : FVec F S1x128x4096 .f32) (K : P F) : P F :=
  .op (.store M (rect2 k) w Finset.univ (View.stores_vmem_bits_univ h_S1x128x4096 rfl) (.inl rfl)) fun _ => K
abbrev get4 (M : Memref sig .tc .vmem S4x128x4096 .bf16) (k : ℕ) (K : Vec F S1x128x4096 .bf16 → P F) : P F :=
  .op (.load M (rect4 k).toLoadRect (View.loadsAt_vmem h_S1x128x4096)) K
abbrev put4 (M : Memref sig .tc .vmem S4x128x4096 .bf16) (hM : M.IsWhole) (k : ℕ) (w : FVec F S1x128x4096 .bf16) (K : P F) : P F :=
  .op (.store M (rect4 k) w Finset.univ (View.stores_vmem h_S1x128x4096 (hM.storeExact_slice rfl _ (packed4 k)) (fun _ => rfl)) (.inl rfl)) fun _ => K
abbrev getChunk (M : Memref sig .tc .vmem S2048x4096 .bf16) (k : ℕ) (K : Vec F S128x4096 .bf16 → P F) : P F :=
  .op (.load M (rect16 k).toLoadRect (View.loadsAt_vmem h_S128x4096)) K
/-- Start sending slot `k % 4` of `S` into chunk `k` of `d`'s buffer `R`. -/
abbrev send (S : Memref sig .tc .vmem S4x128x4096 .bf16) (hS : S.IsWhole) (R : Memref sig .tc .vmem S2048x4096 .bf16) (hR : R.IsWhole)
    (ss sr : DmaSem sig) (d : Dev nD) (k : ℕ) (K : P F) : P F :=
  .op (.enqueueDma (slot4 S k) (.remote (Dev.tc d) (chunk R k) (.dma ss)) (.dma sr) ((hS.wordExact_slice rfl _ (words4 k)).reshape _ _)
    (hR.wordExact_slice rfl _ (words16 k)) ⟨⟨rfl, Or.inl rfl⟩, trivial⟩) fun _ => K
/-- Wait until slot `k % 4` has been read. -/
abbrev sentWait (S : Memref sig .tc .vmem S4x128x4096 .bf16) (hS : S.IsWhole) (R : Memref sig .tc .vmem S2048x4096 .bf16) (hR : R.IsWhole)
    (ss : DmaSem sig) (k : ℕ) (K : P F) : P F :=
  .op (.waitDma2 ss (chunk R k) (slot4 S k) (hR.wordExact_slice rfl _ (words16 k)) ((hS.wordExact_slice rfl _ (words4 k)).reshape _ _)) fun _ => K
/-- Wait until chunk `k` has arrived. -/
abbrev recvWait (S : Memref sig .tc .vmem S4x128x4096 .bf16) (hS : S.IsWhole) (R : Memref sig .tc .vmem S2048x4096 .bf16) (hR : R.IsWhole)
    (sr : DmaSem sig) (k : ℕ) (K : P F) : P F :=
  .op (.waitDma2 sr (slot4 S k) (chunk R k) ((hS.wordExact_slice rfl _ (words4 k)).reshape _ _) (hR.wordExact_slice rfl _ (words16 k))) fun _ => K
/-- Start writing slot `p.2 % 2` out to rows `p` of the result. -/
abbrev outStart (c : Dev nD) (p : Bool × ℕ) (K : P F) : P F :=
  .op (.enqueueDma (slot2 outcM p.2) (.here (orow c p)) (.dma (so p.2)) (View.wordExact_bits rfl) (View.wordExact_bits rfl) ⟨Or.inl rfl, trivial⟩) fun _ => K
/-- Wait until they are written. -/
abbrev outWait (c : Dev nD) (p : Bool × ℕ) (K : P F) : P F :=
  .op (.waitDma2 (so p.2) (slot2 outcM p.2) (orow c p) (View.wordExact_bits rfl) (View.wordExact_bits rfl)) fun _ => K

abbrev whole_ (b : Ref sig .tc) : (Memref.whole b).IsWhole := Memref.isWhole_whole _

/-- The slot's earlier write, if any, is waited for; the slot is filled with `v`; writing it to rows `p` starts. -/
def storeOut (c : Dev nD) (pend : Option (Bool × ℕ)) (p : Bool × ℕ) (v : FVec F S128x4096 .f32) (K : P F) : P F :=
  let body : P F := get2 outcM p.2 fun _ => put2 outcM p.2 (slotPay v) (outStart c p K)
  match pend with
  | none => body
  | some q => outWait c q body

/-- Chunk `i` that arrived in the second exchange is widened and written out. -/
def drain (c : Dev nD) (pend : Option (Bool × ℕ)) (i : ℕ) (K : P F) : P F :=
  recvWait ysendM (whole_ _) yrecvM (whole_ _) (ry i) i <|
  getChunk yrecvM i fun y => storeOut c pend (true, i) (wide y) K

/-- Do `f` first if `b`. -/
abbrev onlyIf (b : Bool) (f : P F → P F) (K : P F) : P F := match b with
  | true => f K
  | false => K

/-- Chunk `k` of the first exchange. -/
def tstep (c : Dev nD) (k : ℕ) (K : P F) : P F :=
  onlyIf (decide (k + 1 < 16)) (ldStart (trow c (k + 1)) (slot2 theirsM (k + 1)) (stheirs (k + 1))) <|
  ldWait (trow c k) (slot2 theirsM k) (stheirs k) <|
  onlyIf (decide (4 ≤ k)) (sentWait xsendM (whole_ _) xrecvM (whole_ _) (sx (k - 4)) (k - 4)) <|
  get2 theirsM k fun v => get4 xsendM k fun _ =>
  put4 xsendM (whole_ _) k (xpay v) <|
  send xsendM (whole_ _) xrecvM (whole_ _) (sx k) (rx k) (dX k c) k K

/-- What slot `j % 2` of the output buffer is being written to when chunk `j` of the second exchange comes. -/
def pendM (j : ℕ) : Option (Bool × ℕ) := match decide (2 ≤ j), decide (4 ≤ j) with
  | false, _ => none
  | true, false => some (false, j - 2)
  | true, true => some (true, j - 4)

/-- Chunk `j` of the second exchange. -/
def mstep (c : Dev nD) (g : FVec F S4096 .f32) (j : ℕ) (K : P F) : P F :=
  onlyIf (decide (j + 1 < 16)) (ldStart (mrow c (j + 1)) (slot2 mineM (j + 1)) (smine (j + 1))) <|
  ldWait (mrow c j) (slot2 mineM j) (smine j) <|
  recvWait xsendM (whole_ _) xrecvM (whole_ _) (rx j) j <|
  get2 mineM j fun v => getChunk xrecvM j fun x =>
  storeOut c (pendM j) (false, j) (opay g v x) <|
  onlyIf (decide (4 ≤ j)) (sentWait ysendM (whole_ _) yrecvM (whole_ _) (sy (j - 4)) (j - 4)) <|
  get4 ysendM j fun _ => put4 ysendM (whole_ _) j (ypay (opay g v x)) <|
  send ysendM (whole_ _) yrecvM (whole_ _) (sy j) (ry j) (dY j c) j <|
  onlyIf (decide (2 ≤ j)) (drain c (some (false, j)) (j - 2)) K

/-- Round `k` of the main loop. -/
def round (c : Dev nD) (g : FVec F S4096 .f32) (k : ℕ) (K : P F) : P F :=
  onlyIf (decide (k < 16)) (tstep c k) <| onlyIf (decide (3 ≤ k)) (mstep c g (k - 3)) K

/-- Rounds `k`, `k + 1`, … , `n` of them. -/
def rounds (c : Dev nD) (g : FVec F S4096 .f32) : ℕ → ℕ → P F → P F
  | 0, _, K => K
  | n + 1, k, K => round c g k (rounds c g n (k + 1) K)

/-- The last sends are waited for, `n` of them from chunk `k` on. -/
def flush : ℕ → ℕ → P F → P F
  | 0, _, K => K
  | n + 1, k, K => sentWait xsendM (whole_ _) xrecvM (whole_ _) (sx k) k <|
      sentWait ysendM (whole_ _) yrecvM (whole_ _) (sy k) k <| flush n (k + 1) K

/-- All that follows the handshake. -/
def main_ (c : Dev nD) : P F :=
  .op (.load gamM (Rect.unit (s := S4096) ![0] S4096.size inb_S4096_S4096_0).toLoadRect (View.loadsAt_vmem h_S4096)) fun g₀ =>
  ldStart (mrow c 0) (slot2 mineM 0) (smine 0) <| ldStart (trow c 0) (slot2 theirsM 0) (stheirs 0) <|
  rounds c (k0_pay1 g₀) 19 0 <|
  drain c (some (true, 12)) 14 <| drain c (some (true, 13)) 15 <|
  flush 4 12 <|
  outWait c (true, 14) <| outWait c (true, 15) <| .ret ⟨⟩

/-- The whole body. -/
def prog : P F :=
  .op .deviceId fun c =>
  .op (.semSignal (Dev.tc (⟨k0_dev1 c, k0_dev1_lt c⟩ : Dev nD)) barS (1#32).toInt) fun _ =>
  .op (.semSignal (Dev.tc (⟨k0_dev2 c, k0_dev2_lt c⟩ : Dev nD)) barS (1#32).toInt) fun _ =>
  .op (.semWait barS (2#32).toInt) fun _ => main_ c

set_option maxRecDepth 100000 in
/-- The printed body, at the buffers it is run on, is the composition of the steps. -/
theorem body_eq : bodyAt0 (F := F) t0_0 = prog := by
  chain_rfl

end Cert.KernelIdeal.Ring

end
-- ==== Proof.Protocol.lean ====
/- The protocol of the two exchanges.

   Device `c = 2x + y` of the 2 × 2 mesh has the neighbour `peerX c` (the other `x`) and the neighbour `peerY c` (the
   other `y`). At the start each device gives its two receive buffers away through the barrier: `xrecv` to `peerX c`,
   `yrecv` to `peerY c`. The copy of chunk `k` into a receive buffer then pays the owner's receive semaphore `k` with
   the chunk, filled; each such semaphore is used once. All other semaphores belong to a device's own copies. -/
module

public import proofs.«01_k».proof.Proof.Steps
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Transfers
public import Idealize.ShloMosaic.Lib.Tactic
public import Mathlib.Algebra.BigOperators.Intervals

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' ghost algebra, and the whole user algebra: the pipeline's, the rounds', the local copies' counters. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## The neighbours -/

set_option backward.proofsInPublic true in
/-- The device with the other first coordinate. -/
def peerX (c : Dev nD) : Dev nD := ⟨(c.val + 2) % 4, Nat.mod_lt _ (by decide)⟩
set_option backward.proofsInPublic true in
/-- The device with the other second coordinate. -/
def peerY (c : Dev nD) : Dev nD := ⟨(2 * (c.val / 2) + 1 - c.val % 2) % 4, Nat.mod_lt _ (by decide)⟩

/-- The x-neighbour's x-neighbour is the device itself. -/
theorem peerX_peerX (c : Dev nD) : peerX (peerX c) = c := by revert c; decide
/-- The y-neighbour's y-neighbour is the device itself. -/
theorem peerY_peerY (c : Dev nD) : peerY (peerY c) = c := by revert c; decide
/-- The two neighbours differ. -/
theorem peerX_ne_peerY (c : Dev nD) : peerX c ≠ peerY c := by revert c; decide

def ringX : Dev nD ≃ Dev nD := ⟨peerX, peerX, peerX_peerX, peerX_peerX⟩
def ringY : Dev nD ≃ Dev nD := ⟨peerY, peerY, peerY_peerY, peerY_peerY⟩

/-- The devices the kernel computes are the neighbours. -/
theorem dev1_eq (c : Dev nD) : (⟨k0_dev1 c, k0_dev1_lt c⟩ : Dev nD) = peerX c := by revert c; decide +kernel
/-- The second device the barrier is signalled on is the y-neighbour. -/
theorem dev2_eq (c : Dev nD) : (⟨k0_dev2 c, k0_dev2_lt c⟩ : Dev nD) = peerY c := by revert c; decide +kernel
/-- Every chunk of the first exchange goes to the x-neighbour. -/
theorem dX_eq {k : ℕ} (hk : k < 16) (c : Dev nD) : dX k c = peerX c :=
  (by decide +kernel : ∀ (i : Fin 16) (c : Dev nD), dX i.val c = peerX c) ⟨k, hk⟩ c
/-- Every chunk of the second exchange goes to the y-neighbour. -/
theorem dY_eq {k : ℕ} (hk : k < 16) (c : Dev nD) : dY k c = peerY c :=
  (by decide +kernel : ∀ (i : Fin 16) (c : Dev nD), dY i.val c = peerY c) ⟨k, hk⟩ c

/-! ## The cells -/

/-- The shared semaphores of a device: the barrier; the receive semaphores of the first (`false`) and second exchange. -/
abbrev KI : Type := Option (Bool × Fin 16)

abbrev csem : KI → SemLoc sig
  | none => .reg barS
  | some (false, k) => .dma (rx k)
  | some (true, k) => .dma (ry k)

/-- Which shared semaphore a semaphore is, if any. -/
def kind : SemLoc sig → Option KI
  | .reg s => if s = barS then some none else none
  | .dma s => if h : 9 ≤ s.val ∧ s.val < 25 then some (some (false, ⟨s.val - 9, by omega⟩))
      else if h : 29 ≤ s.val ∧ s.val < 45 then some (some (true, ⟨s.val - 29, by omega⟩)) else none

/-- `kind` names a semaphore of the protocol by its index again. -/
theorem kind_csem : ∀ i : KI, kind (csem i) = some i := by decide +kernel

/-- Different indices name different semaphores. -/
theorem csem_inj : Function.Injective csem := fun i j h => by
  have := (kind_csem i).symm.trans ((congrArg kind h).trans (kind_csem j)); exact Option.some.inj this

abbrev kcell (ci : Dev nD × KI) : GSem nD τ sig := ((ci.1 : Thread nD τ), csem ci.2)
abbrev barCell (c : Dev nD) : GSem nD τ sig := ((c : Thread nD τ), .reg barS)
abbrev rxCell (c : Dev nD) (k : ℕ) : GSem nD τ sig := ((c : Thread nD τ), .dma (rx k))
abbrev ryCell (c : Dev nD) (k : ℕ) : GSem nD τ sig := ((c : Thread nD τ), .dma (ry k))

/-- The kind of the first exchange's receive semaphores. -/
theorem kind_rx {k : ℕ} (hk : k < 16) : kind (.dma (rx k)) = some (some (false, ⟨k, hk⟩)) := kind_csem (some (false, ⟨k, hk⟩))
/-- The kind of the second exchange's receive semaphores. -/
theorem kind_ry {k : ℕ} (hk : k < 16) : kind (.dma (ry k)) = some (some (true, ⟨k, hk⟩)) := kind_csem (some (true, ⟨k, hk⟩))
/-- The kind of the barrier semaphore. -/
theorem kind_bar : kind (.reg barS) = some none := kind_csem none

/-- The credit of one chunk of 128 rows, narrow and wide. -/
abbrev N : ℕ := (chunk xrecvM 0).view.dmaCredit
abbrev NL : ℕ := (slot2 mineM 0).view.dmaCredit
/-- A narrow chunk's credit is positive. -/
theorem N_pos : 0 < N := View.dmaCredit_pos _ (by decide)
/-- A wide chunk's credit is positive. -/
theorem NL_pos : 0 < NL := View.dmaCredit_pos _ (by decide)

/-! ## Contents -/

variable (m : (ℓ : Loc nD τ sig) → Buf (Elt F) ℓ)

def scast {e : EltTy} (v : Vec F S128x4096 e) : Vec F S1x128x4096 e := shapeCast S1x128x4096 v shapeCasts_S128x4096_S1x128x4096
def smat {e : EltTy} (v : Vec F S1x128x4096 e) : Vec F S128x4096 e := shapeCast S128x4096 v shapeCasts_S1x128x4096_S128x4096

/-- Adding and dropping a leading axis of one changes nothing. -/
theorem smat_scast {e : EltTy} (v : Vec F S128x4096 e) : smat (scast v) = v := shapeCast_shapeCast _ _ _
/-- Dropping and adding a leading axis of one changes nothing. -/
theorem scast_smat {e : EltTy} (v : Vec F S1x128x4096 e) : scast (smat v) = v := shapeCast_shapeCast _ _ _

/-- The argument's block on device `c`, and its chunks: kept, given away. -/
abbrev A0 (c : Dev nD) : Buf (Elt F) ((c : Thread nD τ).loc main_arg0) := m ((c : Thread nD τ).loc main_arg0)
def mch (c : Dev nD) (j : ℕ) : Vec F S128x4096 .f32 := (mrow c j).view.read (Elt F) (A0 m c)
def tch (c : Dev nD) (k : ℕ) : Vec F S128x4096 .f32 := (trow c k).view.read (Elt F) (A0 m c)
/-- The weights, as loaded. -/
def gv (c : Dev nD) : FVec F S4096 .f32 :=
  k0_pay1 (gamM.view.readAt (Elt F) (Rect.unit (s := S4096) ![0] S4096.size inb_S4096_S4096_0).toLoadRect
    ((win0_0.blk (0 : Fin 1)).view.read (Elt F) (m ((c : Thread nD τ).loc main_arg1))))
/-- Chunk `k` as device `c` sends it in the first exchange. -/
def xv (c : Dev nD) (k : ℕ) : Vec F S128x4096 .bf16 := smat (xpay (scast (tch m c k)))
/-- Chunk `j` as device `c` computes it. -/
def oval (c : Dev nD) (j : ℕ) : FVec F S128x4096 .f32 := opay (gv m c) (scast (mch m c j)) (xv m (peerX c) j)
/-- Chunk `j` as device `c` sends it in the second exchange. -/
def yv (c : Dev nD) (j : ℕ) : Vec F S128x4096 .bf16 := smat (ypay (oval m c j))
/-- Rows `p` of the result. -/
def res (c : Dev nD) : Bool × ℕ → Vec F S128x4096 .f32
  | (false, j) => smat (slotPay (oval m c j))
  | (true, j) => smat (slotPay (wide (yv m (peerY c) j)))

/-! ## The schedule -/

/-- A matrix held whole, with contents `X`; with some contents. -/
abbrev own_ (c : Dev nD) {sp : Space} {e : EltTy} (M : Memref sig .tc sp S128x4096 e) (X : Vec F S128x4096 e) : sProp 𝕄 :=
  owns (c : Thread nD τ) M fullShare X
abbrev any_ (c : Dev nD) {sp : Space} {e : EltTy} (M : Memref sig .tc sp S128x4096 e) : sProp 𝕄 := iprop(∃ X, own_ (F := F) c M X)

/-- What `peerX c` and `peerY c` hand `c` at the start: their receive buffers. -/
def barPay (c : Dev nD) (d : Bool) : sProp 𝕄 :=
  if d then bigSep Finset.univ fun k : Fin 16 => any_ (F := F) (peerY c) (chunk yrecvM k)
  else bigSep Finset.univ fun k : Fin 16 => any_ (F := F) (peerX c) (chunk xrecvM k)
/-- What the copy of chunk `k` hands its receiver. -/
def rcvPay (c : Dev nD) (b : Bool) (k : ℕ) : sProp 𝕄 :=
  if b then own_ c (chunk yrecvM k) (yv m (peerY c) k) else own_ c (chunk xrecvM k) (xv m (peerX c) k)

omit [FloatOps F] in
instance barPay_storable (c : Dev nD) (d : Bool) : BI.Storable (upEmb : UEmb _ 𝕄) (barPay (F := F) c d) := by
  unfold barPay; split <;> infer_instance
instance rcvPay_storable (c : Dev nD) (b : Bool) (k : ℕ) : BI.Storable (upEmb : UEmb _ 𝕄) (rcvPay (F := F) m c b k) := by
  unfold rcvPay; split <;> infer_instance

/-- One round. A barrier cell has two duties of one unit each, `false` paid by `peerX`, `true` by `peerY`; a receive
    cell the one duty `false` of a chunk's credit. -/
def ringRd : Rounds.Schedule (GSem nD τ sig) Bool 𝕄 where
  duties g r := if r = 0 ∧ g.1.2 = .tc then (match kind g.2 with | some none => Finset.univ | some (some _) => {false} | none => ∅) else ∅
  unitless _ := False
  amount g _ _ := match kind g.2 with | some none => 1 | _ => N
  payload g _ d := match kind g.2 with | some none => barPay g.1.1 d | some (some (b, k)) => rcvPay m g.1.1 b k | none => iprop(emp)
  amount_pos g _ _ _ := by
    split
    · exact Nat.one_pos
    · exact N_pos

instance ringRd_payload_storable (g : GSem nD τ sig) (r : ℕ) (d : Bool) :
    BI.Storable (upEmb : UEmb _ 𝕄) ((ringRd (F := F) m).payload g r d) := by
  dsimp only [ringRd]; split <;> infer_instance

section Sched
variable (c : Dev nD)

/-- A barrier cell has two duties in its round. -/
theorem duties_bar : (ringRd (F := F) m).duties (barCell c) 0 = Finset.univ := by
  dsimp only [ringRd]; rw [if_pos ⟨rfl, rfl⟩, kind_bar]
/-- A receive cell has one duty in its round. -/
theorem duties_rcv (i : Bool × Fin 16) : (ringRd (F := F) m).duties (kcell (c, some i)) 0 = {false} := by
  dsimp only [ringRd]; rw [if_pos ⟨rfl, rfl⟩, kind_csem]
/-- No cell has a duty after the first round. -/
theorem duties_later (g : GSem nD τ sig) : ∀ r, 1 ≤ r → (ringRd (F := F) m).duties g r = ∅ :=
  fun r hr => by dsimp only [ringRd]; rw [if_neg fun h => by omega]

/-- A duty at a barrier cell is of one unit. -/
theorem amount_bar (d : Bool) : (ringRd (F := F) m).amount (barCell c) 0 d = 1 := by dsimp only [ringRd]; rw [kind_bar]
/-- The duty at a receive cell is a narrow chunk's credit. -/
theorem amount_rcv (i : Bool × Fin 16) (d : Bool) : (ringRd (F := F) m).amount (kcell (c, some i)) 0 d = N := by
  dsimp only [ringRd]; rw [kind_csem]

/-- A barrier cell's round takes two units. -/
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- A receive cell's round takes a narrow chunk's credit. -/
theorem expect_rcv (i : Bool × Fin 16) : (ringRd (F := F) m).expect (kcell (c, some i)) 0 = N := by
  unfold Schedule.expect Schedule.amountOf; rw [duties_rcv, Finset.sum_singleton, amount_rcv]

/-- A duty at a barrier cell hands over a neighbour's receive buffer. -/
theorem payload_bar (d : Bool) : (ringRd (F := F) m).payload (barCell c) 0 d = barPay c d := by dsimp only [ringRd]; rw [kind_bar]
/-- The duty at a receive cell hands over the filled chunk. -/
theorem payload_rcv (i : Bool × Fin 16) (d : Bool) : (ringRd (F := F) m).payload (kcell (c, some i)) 0 d = rcvPay m c i.1 i.2 := by
  dsimp only [ringRd]; rw [kind_csem]

/-- A barrier cell's whole round hands over both neighbours' receive buffers. -/
theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- A receive cell's whole round hands over the filled chunk. -/
theorem rest_rcv (i : Bool × Fin 16) : bigSep ((ringRd (F := F) m).duties (kcell (c, some i)) 0 \ ∅)
    (fun d => (ringRd (F := F) m).payload (kcell (c, some i)) 0 d) = rcvPay m c i.1 i.2 := by
  rw [Finset.sdiff_empty, duties_rcv, bigSep_singleton, payload_rcv]

end Sched

/-! ## What is owed, and the levels -/

/-- What device `c` still owes its neighbours' receive cells when the next chunks to send are `kx` and `ky`. -/
def Orem (c : Dev nD) (kx ky : ℕ) : CellTallies nD τ sig Unit :=
  (∑ k ∈ Finset.Ico kx 16, tallyAt (rxCell (peerX c) k) () N) + ∑ j ∈ Finset.Ico ky 16, tallyAt (ryCell (peerY c) j) () N

/-- Sending chunk `kx` of the first exchange pays one of the debts. -/
theorem Orem_x (c : Dev nD) {kx : ℕ} (h : kx < 16) (ky : ℕ) : Orem c kx ky = Orem c (kx + 1) ky + tallyAt (rxCell (peerX c) kx) () N := by
  unfold Orem; rw [Finset.sum_eq_sum_Ico_succ_bot h]; ac_rfl
/-- Sending chunk `ky` of the second exchange pays one of the debts. -/
theorem Orem_y (c : Dev nD) (kx : ℕ) {ky : ℕ} (h : ky < 16) : Orem c kx ky = Orem c kx (ky + 1) + tallyAt (ryCell (peerY c) ky) () N := by
  unfold Orem; rw [Finset.sum_eq_sum_Ico_succ_bot h]; ac_rfl
/-- When all chunks are sent nothing is owed. -/
theorem Orem_end (c : Dev nD) : Orem c 16 16 = 0 := by unfold Orem; simp

/-- What it owes at launch: that, and one unit to each neighbour's barrier cell. -/
def O₁ (c : Dev nD) : CellTallies nD τ sig Unit := Orem c 0 0 + tallyAt (barCell (peerY c)) () 1
def O₀ (c : Dev nD) : CellTallies nD τ sig Unit := O₁ c + tallyAt (barCell (peerX c)) () 1

def L (g : GSem nD τ sig) : Finset Unit := if g.1.2 = .tc then {()} else ∅
/-- Levels: barrier 1; then the receive cells, chunk by chunk, the first exchange before the second; all others 0. -/
def lvS (sm : SemLoc sig) : ℕ := match kind sm with | some none => 1 | some (some (false, j)) => 2 * j + 2 | some (some (true, j)) => 2 * j + 3 | none => 0
def lv (g : GSem nD τ sig) (_ : Unit) : ℕ := lvS g.2

/-- Only a TensorCore's cells have levels. -/
theorem L_of_ne (g : GSem nD τ sig) (h : g.1.2 ≠ .tc) : L g = ∅ := if_neg h
/-- Every cell of a TensorCore has its level. -/
theorem L_tc (c : Dev nD) (sm : SemLoc sig) : L ((c : Thread nD τ), sm) = {()} := if_pos rfl
/-- The barrier's level. -/
theorem lvS_bar : lvS (.reg barS) = 1 := by unfold lvS; rw [kind_bar]
/-- The levels of the first exchange's receive semaphores. -/
theorem lvS_rx {k : ℕ} (hk : k < 16) : lvS (.dma (rx k)) = 2 * k + 2 := by unfold lvS; rw [kind_rx hk]
/-- The levels of the second exchange's receive semaphores. -/
theorem lvS_ry {k : ℕ} (hk : k < 16) : lvS (.dma (ry k)) = 2 * k + 3 := by unfold lvS; rw [kind_ry hk]

/-- If a sum of tallies is positive at a cell, one of them is. -/
theorem sum_pos {ι : Type} (S : Finset ι) (f : ι → CellTallies nD τ sig Unit) {g : GSem nD τ sig} {u : Unit}
    (h : 0 < (∑ i ∈ S, f i) g u) : ∃ i ∈ S, 0 < f i g u := by
  rw [Finset.sum_apply, Finsupp.finset_sum_apply] at h
  by_contra hn
  exact absurd (Finset.sum_eq_zero fun i hi => Nat.le_zero.mp (not_lt.mp fun h' => hn ⟨i, hi, h'⟩)) (by omega)

/-- A tally is positive at its own cell only. -/
theorem tally_pos {g₀ g : GSem nD τ sig} {u : Unit} {n : ℕ} (h : 0 < tallyAt g₀ () n g u) : g = g₀ := by
  rw [tallyAt_apply] at h
  by_contra hn
  rw [if_neg (fun h' => hn h'.1)] at h
  exact Nat.lt_irrefl 0 h

/-- A cell something is owed to is on a TensorCore, at a level above what both next chunks allow. -/
theorem Orem_pos {c : Dev nD} {kx ky : ℕ} {g : GSem nD τ sig} {u : Unit} (h : 0 < Orem c kx ky g u) :
    g.1.2 = .tc ∧ (2 * kx + 2 ≤ lvS g.2 ∨ 2 * ky + 3 ≤ lvS g.2) := by
  unfold Orem at h
  rw [Pi.add_apply, Finsupp.add_apply] at h
  rcases Nat.add_pos_iff_pos_or_pos.mp h with h | h
  · obtain ⟨k, hk, h⟩ := sum_pos _ _ h
    obtain ⟨h1, h2⟩ := Finset.mem_Ico.mp hk
    rw [tally_pos h, lvS_rx h2]; exact ⟨rfl, .inl (by omega)⟩
  · obtain ⟨k, hk, h⟩ := sum_pos _ _ h
    obtain ⟨h1, h2⟩ := Finset.mem_Ico.mp hk
    rw [tally_pos h, lvS_ry h2]; exact ⟨rfl, .inr (by omega)⟩

/-- A cell something is owed to at launch is on a TensorCore, at level one or above. -/
theorem O₀_pos {c : Dev nD} {g : GSem nD τ sig} {u : Unit} (h : 0 < O₀ c g u) : g.1.2 = .tc ∧ 1 ≤ lvS g.2 := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · exact ⟨(Orem_pos h).1, by rcases (Orem_pos h).2 with h | h <;> omega⟩
    · rw [tally_pos h, lvS_bar]; exact ⟨rfl, le_rfl⟩
  · rw [tally_pos h, lvS_bar]; exact ⟨rfl, le_rfl⟩

omit [FloatOps F] in
/-- A device may wait on a semaphore whose level is below those of all it owes. -/
theorem mayWait_of (c : Dev nD) (sm : SemLoc sig) (O : CellTallies nD τ sig Unit)
    (h : ∀ g u, 0 < O g u → g.1.2 = .tc ∧ lvS sm < lvS g.2) : (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

omit [FloatOps F] in
/-- A device may wait for its own copies, whatever it still has to send. -/
theorem mayWait_local (c : Dev nD) (sm : SemLoc sig) (hsm : lvS sm = 0) (kx ky : ℕ) :
    (levAts L lv : sProp 𝕄) ⊢ MayWait (c : Thread nD τ) sm () (Orem c kx ky) :=
  mayWait_of c sm _ fun g u h => ⟨(Orem_pos h).1, by rcases (Orem_pos h).2 with h | h <;> omega⟩
omit [FloatOps F] in
/-- A device may wait at the barrier before it has sent anything. -/
theorem mayWait_bar (c : Dev nD) : (levAts L lv : sProp 𝕄) ⊢ MayWait (c : Thread nD τ) (.reg barS) () (Orem c 0 0) :=
  mayWait_of c _ _ fun g u h => ⟨(Orem_pos h).1, by rw [lvS_bar]; rcases (Orem_pos h).2 with h | h <;> omega⟩
omit [FloatOps F] in
/-- A device may wait for chunk `j` of the first exchange once it has sent its own, and the second exchange's before it. -/
theorem mayWait_rx (c : Dev nD) {j kx ky : ℕ} (hj : j < 16) (hx : j < kx) (hy : j ≤ ky) :
    (levAts L lv : sProp 𝕄) ⊢ MayWait (c : Thread nD τ) (.dma (rx j)) () (Orem c kx ky) :=
  mayWait_of c _ _ fun g u h => ⟨(Orem_pos h).1, by rw [lvS_rx hj]; rcases (Orem_pos h).2 with h | h <;> omega⟩
omit [FloatOps F] in
/-- A device may wait for chunk `j` of the second exchange once it has sent its own, and one more of the first exchange. -/
theorem mayWait_ry (c : Dev nD) {j kx ky : ℕ} (hj : j < 16) (hx : j + 1 < kx) (hy : j < ky) :
    (levAts L lv : sProp 𝕄) ⊢ MayWait (c : Thread nD τ) (.dma (ry j)) () (Orem c kx ky) :=
  mayWait_of c _ _ fun g u h => ⟨(Orem_pos h).1, by rw [lvS_ry hj]; rcases (Orem_pos h).2 with h | h <;> omega⟩
omit [FloatOps F] in
/-- A device may wait for its own copies at launch and at the end. -/
theorem mayWait_stage (c : Dev nD) (sm : SemLoc sig) (hsm : lvS sm = 0) (O : CellTallies nD τ sig Unit) (hO : O = O₀ c ∨ O = 0) :
    (levAts L lv : sProp 𝕄) ⊢ MayWait (c : Thread nD τ) sm () O := by
  rcases hO with rfl | rfl
  · exact mayWait_of c sm _ fun g u h => ⟨(O₀_pos h).1, by have := (O₀_pos h).2; omega⟩
  · rw [MayWait_zero]; iintro -; iempintro

/-! ## Slots and semaphores depend on the chunk's number modulo their count -/

/-- A slot of a two-slot buffer depends on the chunk's number modulo two. -/
theorem slot2_congr (M : Memref sig .tc .vmem S2x128x4096 .f32) {k k' : ℕ} (h : k % 2 = k' % 2) : slot2 M k = slot2 M k' := by
  have aux : ∀ (n n' : ℕ) (hn : ∀ a, (![n, 0, 0] : Fin 3 → Nat) a + S1x128x4096.size a ≤ S2x128x4096.size a)
      (hn' : ∀ a, (![n', 0, 0] : Fin 3 → Nat) a + S1x128x4096.size a ≤ S2x128x4096.size a), n = n' →
      (M.slice (Rect.unit (s := S2x128x4096) ![n, 0, 0] S1x128x4096.size hn) (fun _ => rfl)).squeeze S128x4096 squeezes_S1x128x4096_S128x4096
        = (M.slice (Rect.unit (s := S2x128x4096) ![n', 0, 0] S1x128x4096.size hn') (fun _ => rfl)).squeeze S128x4096 squeezes_S1x128x4096_S128x4096 := by
    rintro n _ hn hn' rfl; rfl
  exact aux _ _ _ _ h
/-- A slot of a four-slot buffer depends on the chunk's number modulo four. -/
theorem slot4_congr (M : Memref sig .tc .vmem S4x128x4096 .bf16) {k k' : ℕ} (h : k % 4 = k' % 4) : slot4 M k = slot4 M k' := by
  have aux : ∀ (n n' : ℕ) (hn : ∀ a, (![n, 0, 0] : Fin 3 → Nat) a + S1x128x4096.size a ≤ S4x128x4096.size a)
      (hn' : ∀ a, (![n', 0, 0] : Fin 3 → Nat) a + S1x128x4096.size a ≤ S4x128x4096.size a), n = n' →
      (M.slice (Rect.unit (s := S4x128x4096) ![n, 0, 0] S1x128x4096.size hn) (fun _ => rfl)).squeeze S128x4096 squeezes_S1x128x4096_S128x4096
        = (M.slice (Rect.unit (s := S4x128x4096) ![n', 0, 0] S1x128x4096.size hn') (fun _ => rfl)).squeeze S128x4096 squeezes_S1x128x4096_S128x4096 := by
    rintro n _ hn hn' rfl; rfl
  exact aux _ _ _ _ h
/-- A semaphore of two depends on the chunk's number modulo two. -/
theorem sem2_congr (A : DmaSems sig S2) {k k' : ℕ} (h : k % 2 = k' % 2) : sem2 A k = sem2 A k' := by
  have aux : ∀ (n n' : ℕ) (hn : ∀ a, (![n] : Fin 1 → Nat) a + S1.size a ≤ S2.size a) (hn' : ∀ a, (![n'] : Fin 1 → Nat) a + S1.size a ≤ S2.size a),
      n = n' → ((A.slice (Rect.unit (s := S2) ![n] S1.size hn)).squeeze S_ squeezes_S1_S_).sem
        = ((A.slice (Rect.unit (s := S2) ![n'] S1.size hn')).squeeze S_ squeezes_S1_S_).sem := by
    rintro n _ hn hn' rfl; rfl
  exact aux _ _ _ _ h
/-- A semaphore of four depends on the chunk's number modulo four. -/
theorem sem4_congr (A : DmaSems sig S4) {k k' : ℕ} (h : k % 4 = k' % 4) : sem4 A k = sem4 A k' := by
  have aux : ∀ (n n' : ℕ) (hn : ∀ a, (![n] : Fin 1 → Nat) a + S1.size a ≤ S4.size a) (hn' : ∀ a, (![n'] : Fin 1 → Nat) a + S1.size a ≤ S4.size a),
      n = n' → ((A.slice (Rect.unit (s := S4) ![n] S1.size hn)).squeeze S_ squeezes_S1_S_).sem
        = ((A.slice (Rect.unit (s := S4) ![n'] S1.size hn')).squeeze S_ squeezes_S1_S_).sem := by
    rintro n _ hn hn' rfl; rfl
  exact aux _ _ _ _ h

/-- The semaphores of a device's own copies are at level 0. -/
theorem lvS_smine (k : ℕ) : lvS (.dma (smine k)) = 0 := by
  rw [smine, sem2_congr _ (Nat.mod_mod k 2).symm]
  exact (by decide +kernel : ∀ i : Fin 2, lvS (.dma (smine i.val)) = 0) ⟨k % 2, Nat.mod_lt _ (by decide)⟩
/-- The same of the other half's load semaphores. -/
theorem lvS_stheirs (k : ℕ) : lvS (.dma (stheirs k)) = 0 := by
  rw [stheirs, sem2_congr _ (Nat.mod_mod k 2).symm]
  exact (by decide +kernel : ∀ i : Fin 2, lvS (.dma (stheirs i.val)) = 0) ⟨k % 2, Nat.mod_lt _ (by decide)⟩
/-- The same of the store semaphores. -/
theorem lvS_so (k : ℕ) : lvS (.dma (so k)) = 0 := by
  rw [so, sem2_congr _ (Nat.mod_mod k 2).symm]
  exact (by decide +kernel : ∀ i : Fin 2, lvS (.dma (so i.val)) = 0) ⟨k % 2, Nat.mod_lt _ (by decide)⟩
/-- The same of the first exchange's send semaphores. -/
theorem lvS_sx (k : ℕ) : lvS (.dma (sx k)) = 0 := by
  rw [sx, sem4_congr _ (Nat.mod_mod k 4).symm]
  exact (by decide +kernel : ∀ i : Fin 4, lvS (.dma (sx i.val)) = 0) ⟨k % 4, Nat.mod_lt _ (by decide)⟩
/-- The same of the second exchange's send semaphores. -/
theorem lvS_sy (k : ℕ) : lvS (.dma (sy k)) = 0 := by
  rw [sy, sem4_congr _ (Nat.mod_mod k 4).symm]
  exact (by decide +kernel : ∀ i : Fin 4, lvS (.dma (sy i.val)) = 0) ⟨k % 4, Nat.mod_lt _ (by decide)⟩

end Cert.KernelIdeal.Ring

end
-- ==== Proof.Rules.lean ====
/- What one step of the body does to what the device holds: starting and awaiting a copy of its own, reading and
   filling a slot, sending a chunk to a neighbour and awaiting a chunk from one. -/
module

public import proofs.«01_k».proof.Proof.Protocol

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono flight_alloc flight_creditUpdate flight_intro wp_dmaLocal wp_waitLocalO)

variable {F : FTy → Type} [FloatOps F]

local notation "𝕄" => MT nD τ sig Unit (Elt F) ℕ UU ℕ

abbrev 𝒱₀ : Variants := Variants.none

/-- The program `K` run by device `c` ends in `Q`. -/
abbrev WP (c : Dev nD) (K : P F) (Q : PUnit → sProp 𝕄) : sProp 𝕄 :=
  wp frame (wpE (defs₀ (F := F)) 𝒱₀ (c : Thread nD τ) none) Set.univ K Q

/-- What device `c` owes when the next chunks to send are `kx` and `ky`. -/
abbrev Ow (c : Dev nD) (kx ky : ℕ) : sProp 𝕄 := iprop(∃ W, owes (c : Thread nD τ) (Orem c kx ky) W)

/-- The elements under a matrix, with the contents `f` of the buffer, at share `q`. -/
abbrev pts_ (c : Dev nD) {sp : Space} {e : EltTy} (M : Memref sig .tc sp S128x4096 e) (q : PosShare TreeShare)
    (f : Buf (Elt F) (M.view.loc (c : Thread nD τ))) : sProp 𝕄 := M.view.loc (c : Thread nD τ) ↦[M.view.set]{q} f

/-- A copy in flight on the device's own semaphore `sm`, which will deliver `D`. -/
abbrev Fl (c : Dev nD) (sm : DmaSem sig) (n : ℕ) (D : sProp 𝕄) : sProp 𝕄 := Flight EC (c : Thread nD τ) (.dma sm) () n D

abbrev sv (c : Dev nD) (sm : DmaSem sig) : sProp 𝕄 := semVal ((c : Thread nD τ), SemLoc.dma sm) 0

variable (m : (ℓ : Loc nD τ sig) → Buf (Elt F) ℓ)

/-! ## Contents of slots -/

omit [FloatOps F] in
/-- Elements held at contents that a matrix reads as `X`. -/
theorem own_of (c : Dev nD) {sp : Space} {s : Shape} {e : EltTy} {M : Memref sig .tc sp s e} {q : PosShare TreeShare}
    {f : Buf (Elt F) (M.view.loc (c : Thread nD τ))} {X : s.Idx → Elt F e} (h : M.view.read (Elt F) f = X) :
    (M.view.loc (c : Thread nD τ) ↦[M.view.set]{q} f : sProp 𝕄) ⊢ owns (c : Thread nD τ) M q X := h ▸ owns_intro _ _ _ _

/-- A slot read as a matrix is what a load of the slot reads, without the leading axis. -/
theorem read_slot2 (M : Memref sig .tc .vmem S2x128x4096 .f32) (k : ℕ) (f : M.view.ty.Contents (Elt F)) :
    (slot2 M k).view.read (Elt F) f = smat (M.view.readAt (Elt F) (rect2 k).toLoadRect f) :=
  Memref.read_squeeze_slice M (rect2 k) _ _ shapeCasts_S1x128x4096_S128x4096 f
/-- The same of a four-slot buffer. -/
theorem read_slot4 (M : Memref sig .tc .vmem S4x128x4096 .bf16) (k : ℕ) (f : M.view.ty.Contents (Elt F)) :
    (slot4 M k).view.read (Elt F) f = smat (M.view.readAt (Elt F) (rect4 k).toLoadRect f) :=
  Memref.read_squeeze_slice M (rect4 k) _ _ shapeCasts_S1x128x4096_S128x4096 f
/-- After a store to a slot, the slot reads as what was stored. -/
theorem read_put2 (M : Memref sig .tc .vmem S2x128x4096 .f32) (k : ℕ) (f : M.view.ty.Contents (Elt F)) (w : FVec F S1x128x4096 .f32) :
    (slot2 M k).view.read (Elt F) ((M.access (rect2 k)).write (Elt F) f w Finset.univ) = smat w :=
  (read_slot2 M k _).trans (congrArg (smat (F := F)) ((View.readAt_rect _ _).trans (View.read_write_univ _ _)))
/-- The same of a four-slot buffer. -/
theorem read_put4 (M : Memref sig .tc .vmem S4x128x4096 .bf16) (k : ℕ) (f : M.view.ty.Contents (Elt F)) (w : FVec F S1x128x4096 .bf16) :
    (slot4 M k).view.read (Elt F) ((M.access (rect4 k)).write (Elt F) f w Finset.univ) = smat w :=
  (read_slot4 M k _).trans (congrArg (smat (F := F)) ((View.readAt_rect _ _).trans (View.read_write_univ _ _)))

/-! ## Copies of the device's own -/

/-- A copy of a device's own is started: source and destination are in flight on its semaphore. -/
theorem wp_start (c : Dev nD) {sp sp' : Space} {src : Memref sig .tc sp S128x4096 .f32} {dst : Memref sig .tc sp' S128x4096 .f32} {sm : DmaSem sig}
    {hsrc : src.view.WordExact} {hdst : dst.view.WordExact} {hsem : DmaTarget.Typed (nD := nD) (τ := τ) (p := .tc) sp (.dma sm) (.here dst)} {K : P F} {Q : PUnit → sProp 𝕄}
    {q : PosShare TreeShare} {fs : Buf (Elt F) (src.view.loc (c : Thread nD τ))} :
    iprop(pts_ c src q fs ∗ any_ c dst ∗ sv c sm)
      ⊢ iprop((Fl c sm NL iprop(own_ c dst (src.view.read (Elt F) fs) ∗ pts_ c src q fs) -∗ WP c K Q)
        -∗ WP c (.op (.enqueueDma src (.here dst) (.dma sm) hsrc hdst hsem) fun _ => K) Q) := by
  unfold any_ own_
  iintro ⟨Hs, ⟨%X, HX⟩, Hv⟩ Hk
  ihave HX := (Entails.of_eq (owns.eq_1 _ _ _ _)) $$ HX
  icases HX with ⟨%fd, %hX, Hd⟩
  iapply (wp_dmaLocal EC 𝒱₀ (c : Thread nD τ) none () NL (rfl : dst.view.amount (.dma sm) = NL) NL_pos (Finset.Subset.refl _)) $$ [Hs Hd Hv]
  · isplitl [Hs]; · iexact Hs
    isplitl [Hd] <;> iassumption
  iintro HF
  iapply Hk
  iapply (Flight_mono EC (c : Thread nD τ) (sep_mono_left (own_of c (View.read_write_univ _ _)))) $$ HF

/-- A copy of a device's own is waited for: source and destination come back. -/
theorem wp_waitL (c : Dev nD) {sp sp' : Space} {e e' : EltTy} {src : Memref sig .tc sp S128x4096 e} {dst : Memref sig .tc sp' S128x4096 e'} {sm : DmaSem sig}
    {hsrc : src.view.WordExact} {hdst : dst.view.WordExact} {K : P F} {Q : PUnit → sProp 𝕄} (hsm : lvS (.dma sm) = 0) {n : ℕ} (hn : dst.view.dmaCredit = n)
    {D : sProp 𝕄} (kx ky : ℕ) :
    iprop(Fl c sm n D ∗ Ow c kx ky ∗ levAts L lv)
      ⊢ iprop((iprop(D ∗ sv c sm ∗ Ow c kx ky) -∗ WP c K Q) -∗ WP c (.op (.waitDma2 sm src dst hsrc hdst) fun _ => K) Q) := by
  iintro ⟨HF, ⟨%W, HO⟩, #Hlev⟩ Hk
  iapply (wp_waitLocalO EC 𝒱₀ (c : Thread nD τ) none () hn) $$ [HF HO]
  · isplitl [HF]; · iexact HF
    isplitl [HO]; · iexact HO
    iapply (mayWait_local c _ hsm kx ky); iexact Hlev
  iintro ⟨HD, Hv, HO⟩
  iapply Hk
  isplitl [HD]; · iexact HD
  isplitl [Hv]; · iexact Hv
  iexists _; iexact HO

/-! ## Slots and chunks read and filled -/

/-- A slot's elements are those an access at its rectangle reaches. -/
theorem set_slot {s : Shape} {e : EltTy} (M : Memref sig .tc .vmem s e) (r : Rect s) (hr : ∀ a, r.stride a = 1) (hq : r.shape.Squeezes S128x4096) :
    ((M.slice r hr).squeeze S128x4096 hq).view.set = (M.access r).set := View.set_reshape _ _
/-- A load at a rectangle reads the elements an access reaches. -/
theorem set_load {s : Shape} {e : EltTy} (M : Memref sig .tc .vmem s e) (r : Rect s) :
    M.view.setOn r.toLoadRect.set = (M.access r).set := (View.set_slice _ r).symm

/-- A load of a two-slot buffer's slot reads its contents. -/
theorem wp_get2 (c : Dev nD) {M : Memref sig .tc .vmem S2x128x4096 .f32} {k : ℕ} {X : Vec F S128x4096 .f32} {q : PosShare TreeShare}
    {K : Vec F S1x128x4096 .f32 → P F} {Q : PUnit → sProp 𝕄} :
    (owns (c : Thread nD τ) (slot2 M k) q X : sProp 𝕄)
      ⊢ iprop((owns (c : Thread nD τ) (slot2 M k) q X -∗ WP c (K (scast X)) Q) -∗ WP c (get2 M k K) Q) := by
  iintro HX Hk
  ihave HX := (Entails.of_eq (owns.eq_1 _ _ _ _)) $$ HX
  icases HX with ⟨%f, %hf, H⟩
  iapply (wp_load 𝒱₀ (c : Thread nD τ) none Set.univ (m := M) (f := f) ((set_load M (rect2 k)).trans (set_slot M (rect2 k) _ _).symm).subset) $$ H
  iintro H
  rw [show M.view.readAt (Elt F) (rect2 k).toLoadRect f = scast X by rw [← hf, read_slot2, scast_smat]]
  iapply Hk
  iapply (own_of c hf) $$ H

/-- A load of a four-slot buffer's slot reads its contents. -/
theorem wp_get4 (c : Dev nD) {M : Memref sig .tc .vmem S4x128x4096 .bf16} {k : ℕ} {X : Vec F S128x4096 .bf16} {q : PosShare TreeShare}
    {K : Vec F S1x128x4096 .bf16 → P F} {Q : PUnit → sProp 𝕄} :
    (owns (c : Thread nD τ) (slot4 M k) q X : sProp 𝕄)
      ⊢ iprop((owns (c : Thread nD τ) (slot4 M k) q X -∗ WP c (K (scast X)) Q) -∗ WP c (get4 M k K) Q) := by
  iintro HX Hk
  ihave HX := (Entails.of_eq (owns.eq_1 _ _ _ _)) $$ HX
  icases HX with ⟨%f, %hf, H⟩
  iapply (wp_load 𝒱₀ (c : Thread nD τ) none Set.univ (m := M) (f := f) ((set_load M (rect4 k)).trans (set_slot M (rect4 k) _ _).symm).subset) $$ H
  iintro H
  rw [show M.view.readAt (Elt F) (rect4 k).toLoadRect f = scast X by rw [← hf, read_slot4, scast_smat]]
  iapply Hk
  iapply (own_of c hf) $$ H

/-- A load of a chunk of a receive buffer reads its contents. -/
theorem wp_getChunk (c : Dev nD) {M : Memref sig .tc .vmem S2048x4096 .bf16} {k : ℕ} {X : Vec F S128x4096 .bf16} {q : PosShare TreeShare}
    {K : Vec F S128x4096 .bf16 → P F} {Q : PUnit → sProp 𝕄} :
    (owns (c : Thread nD τ) (chunk M k) q X : sProp 𝕄)
      ⊢ iprop((owns (c : Thread nD τ) (chunk M k) q X -∗ WP c (K X) Q) -∗ WP c (getChunk M k K) Q) := by
  iintro HX Hk
  ihave HX := (Entails.of_eq (owns.eq_1 _ _ _ _)) $$ HX
  icases HX with ⟨%f, %hf, H⟩
  iapply (wp_load 𝒱₀ (c : Thread nD τ) none Set.univ (m := M) (f := f) (set_load M (rect16 k)).subset) $$ H
  iintro H
  rw [show M.view.readAt (Elt F) (rect16 k).toLoadRect f = X from hf]
  iapply Hk
  iapply (own_of c hf) $$ H

/-- A store to a two-slot buffer's slot leaves what is stored. -/
theorem wp_put2 (c : Dev nD) {M : Memref sig .tc .vmem S2x128x4096 .f32} {k : ℕ} {w : FVec F S1x128x4096 .f32} {K : P F} {Q : PUnit → sProp 𝕄} :
    (any_ c (slot2 M k) : sProp 𝕄) ⊢ iprop((own_ c (slot2 M k) (smat w) -∗ WP c K Q) -∗ WP c (put2 M k w K) Q) := by
  unfold any_ own_
  iintro ⟨%X, HX⟩ Hk
  ihave HX := (Entails.of_eq (owns.eq_1 _ _ _ _)) $$ HX
  icases HX with ⟨%f, %hf, H⟩
  iapply (wp_store 𝒱₀ (c : Thread nD τ) none Set.univ (m := M) (r := rect2 k) (Mk := Finset.univ) (f := f) (set_slot M (rect2 k) _ _).symm.subset) $$ H
  iintro H
  iapply Hk
  iapply (own_of c (read_put2 M k f w)) $$ H

/-- A store to a four-slot buffer's slot leaves what is stored. -/
theorem wp_put4 (c : Dev nD) {M : Memref sig .tc .vmem S4x128x4096 .bf16} {hM : M.IsWhole} {k : ℕ} {w : FVec F S1x128x4096 .bf16} {K : P F} {Q : PUnit → sProp 𝕄} :
    (any_ c (slot4 M k) : sProp 𝕄) ⊢ iprop((own_ c (slot4 M k) (smat w) -∗ WP c K Q) -∗ WP c (put4 M hM k w K) Q) := by
  unfold any_ own_
  iintro ⟨%X, HX⟩ Hk
  ihave HX := (Entails.of_eq (owns.eq_1 _ _ _ _)) $$ HX
  icases HX with ⟨%f, %hf, H⟩
  iapply (wp_store 𝒱₀ (c : Thread nD τ) none Set.univ (m := M) (r := rect4 k) (Mk := Finset.univ) (f := f) (set_slot M (rect4 k) _ _).symm.subset) $$ H
  iintro H
  iapply Hk
  iapply (own_of c (read_put4 M k f w)) $$ H

/-! ## Sends and receipts -/

/-- A chunk is sent: the slot is in flight on the send semaphore, the filled chunk pays the receiver's cell. -/
theorem wp_send (c : Dev nD) {S : Memref sig .tc .vmem S4x128x4096 .bf16} {hS : S.IsWhole} {R : Memref sig .tc .vmem S2048x4096 .bf16} {hR : R.IsWhole}
    {ss : DmaSem sig} (i : Bool × Fin 16) {sr : DmaSem sig} (hsr : SemLoc.dma sr = csem (some i)) {d d' : Dev nD} (hd : d' = d) {k : ℕ} {K : P F} {Q : PUnit → sProp 𝕄}
    {X : Vec F S128x4096 .bf16} {κ : ℕ} (hpay : own_ d (chunk R k) X ⊢ rcvPay m d i.1 i.2)
    {Oa Ob : CellTallies nD τ sig Unit} (hO : Oa = Ob + tallyAt ((d : Thread nD τ), .dma sr) () N) :
    iprop(own_ c (slot4 S k) X ∗ any_ d (chunk R k) ∗ sv c ss ∗ (∃ W, owes (c : Thread nD τ) Oa W)
        ∗ cellInv ER (ringRd m) κ (kcell (d, some i)) ∗ dutyTok ER (kcell (d, some i)) 0 false ∗ reached ER (kcell (d, some i)) 0)
      ⊢ iprop((iprop(Fl c ss N (own_ c (slot4 S k) X) ∗ (∃ W, owes (c : Thread nD τ) Ob W)) -∗ WP c K Q) -∗ WP c (send S hS R hR ss sr d' k K) Q) := by
  subst hd
  have hcell : kcell (d', some i) = ((d' : Thread nD τ), SemLoc.dma sr) := by rw [hsr]
  unfold any_ own_
  iintro ⟨HX, ⟨%Y, HY⟩, Hv, ⟨%W, HO⟩, #Hinv, Htok, #Hr⟩ Hk
  ihave HX := (Entails.of_eq (owns.eq_1 _ _ _ _)) $$ HX
  icases HX with ⟨%fs, %hfs, Hs⟩
  ihave HY := (Entails.of_eq (owns.eq_1 _ _ _ _)) $$ HY
  icases HY with ⟨%fd, %hfd, Hd⟩
  imod (flight_alloc EC N_pos iprop(pts_ c (slot4 S k) fullShare fs) (g := ((c : Thread nD τ), SemLoc.dma ss))) $$ Hv with ⟨%γ, %δ, %ι, #Hfi, Hγ, Hδ⟩
  ihave Hcu := (land_credit ER (ringRd m) (κ := κ) (g := kcell (d', some i)) (r := 0) (d := false)
      (X := pts_ d' (chunk R k) fullShare ((chunk R k).view.write (Elt F) fd ((slot4 S k).view.read (Elt F) fs) Finset.univ))
      (by rw [duties_rcv]; exact Finset.mem_singleton_self _)
      (by rw [payload_rcv]; exact (own_of d' ((View.read_write_univ _ _).trans hfs)).trans hpay)) $$ [Htok]
  · isplitr; · iexact Hinv
    isplitl [Htok]; · iexact Htok
    iexact Hr
  rw [amount_rcv, hcell]
  have hN : (chunk R k).view.amount (.dma sr) = N := rfl
  have hr : τ.routes (c : Thread nD τ) (d' : Thread nD τ) = true := by routes
  have hrule := wp_enqueueDma_remote_pointsTo (defs := defs₀ (F := F)) (Name := ℕ) (U := UU) (Lvl := ℕ) (Γ := .empty) 𝒱₀ (c : Thread nD τ) none Set.univ
    (c' := (d' : Thread nD τ)) (src := slot4 S k) (dst := chunk R k) (sS := .dma ss) (sem := .dma sr) (q := fullShare) (fs := fs) (fd := fd) (W := W)
    (hsc := rfl) (hsrc := ((hS.wordExact_slice rfl _ (words4 k)).reshape _ _)) (hdst := hR.wordExact_slice rfl _ (words16 k))
    (hsem := ⟨⟨rfl, Or.inl rfl⟩, trivial⟩) (k := fun _ => K) (Q := Q) () () Ob N hN hO hr
  iapply hrule $$ [Hs Hd HO] [Hγ] [Hcu]
  · isplitl [Hs]; · iexact Hs
    isplitl [Hd] <;> iassumption
  · iapply (flight_creditUpdate EC (δ := δ))
    isplitr; · iexact Hfi
    iexact Hγ
  · iexact Hcu
  iintro ⟨Hcred, HO⟩
  iapply Hk
  isplitl [Hδ Hcred]
  · iapply (Flight_mono EC (c : Thread nD τ) (D := pts_ c (slot4 S k) fullShare fs) (own_of c hfs))
    iapply (flight_intro EC (c : Thread nD τ) (κ := ι))
    isplitr; · iexact Hfi
    isplitl [Hδ] <;> iassumption
  · iexists W; iexact HO

/-- A chunk that arrives is awaited. -/
theorem wp_recv (c : Dev nD) {sp sp' : Space} {e : EltTy} {src : Memref sig .tc sp S128x4096 e} {dst : Memref sig .tc sp' S128x4096 .bf16}
    {hsrc : src.view.WordExact} {hdst : dst.view.WordExact} (i : Bool × Fin 16) {sr : DmaSem sig} (hsr : SemLoc.dma sr = csem (some i))
    {K : P F} {Q : PUnit → sProp 𝕄} {κ : ℕ} {kx ky : ℕ}
    (hmw : (levAts L lv : sProp 𝕄) ⊢ MayWait (c : Thread nD τ) (.dma sr) () (Orem c kx ky)) :
    iprop(cellInv ER (ringRd m) κ (kcell (c, some i)) ∗ cred (tallyAt (kcell (c, some i)) () N) ∗ atPos ER (kcell (c, some i)) 0 ∅ 0 ∗ Ow c kx ky ∗ levAts L lv)
      ⊢ iprop((iprop(atPos ER (kcell (c, some i)) 1 ∅ 0 ∗ rcvPay m c i.1 i.2 ∗ Ow c kx ky) -∗ WP c K Q)
        -∗ WP c (.op (.waitDma2 sr src dst hsrc hdst) fun _ => K) Q) := by
  have hcell : kcell (c, some i) = ((c : Thread nD τ), SemLoc.dma sr) := by rw [hsr]
  have hex := expect_rcv m c i
  have hrest := rest_rcv m c i
  rw [hcell] at hex hrest ⊢
  iintro ⟨#Hinv, Hc, Hat, ⟨%W, HO⟩, #Hlev⟩ Hk
  iapply (Rounds.wp_wait_rest_token 𝒱₀ ER (ringRd m) (c : Thread nD τ) none (κ := κ)
      (wpE_waitDma2_eq 𝒱₀ (c : Thread nD τ) none Set.univ) (Set.mem_univ _) () (O := Orem c kx ky) (W := W) (R := 0) (m := 0) (T := ∅)
      (by rw [Nat.zero_add, hex])) $$ [Hc HO Hat]
  · isplitr; · iexact Hinv
    isplitl [Hc]; · iexact Hc
    isplitl [HO]; · iexact HO
    isplitr; · iapply hmw; iexact Hlev
    iexact Hat
  iintro ⟨HO, Hat, -, Hpay⟩
  ihave Hpay := (Entails.of_eq hrest) $$ Hpay
  iapply Hk
  isplitl [Hat]; · iexact Hat
  isplitl [Hpay]; · iexact Hpay
  iexists _; iexact HO

end Cert.KernelIdeal.Ring

end
-- ==== Proof.State.lean ====
/- What device `c` holds between the steps of the body, and the steps' effect on it.

   A slot is idle, or in flight with a chunk; the chunks still to come and those done are products over their numbers.
   `b : Bool` names the exchange: `false` the first (along the first mesh coordinate), `true` the second. -/
module

public import proofs.«01_k».proof.Proof.Rules
public import Idealize.SL.BI.BigOpNat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × KI → ℕ) (c : Dev nD)

/-! ## The facts that stay -/

/-- Every shared cell's invariant, that it has reached its only round, and the levels. -/
def Env : sProp 𝕄 := iprop((bigSep Finset.univ fun ci => cellInv ER (ringRd m) (κ ci) (kcell ci)) ∗ (bigSep Finset.univ fun ci => reached ER (kcell ci) 0) ∗ levAts L lv)

instance Env_persistent : BI.Persistent (Env (F := F) m κ) := by unfold Env; infer_instance

/-- The shared facts hold the levels. -/
theorem Env_lev : Env (F := F) m κ ⊢ levAts L lv := by unfold Env; iintro ⟨-, -, H⟩; iexact H
/-- The shared facts hold every cell's invariant. -/
theorem Env_inv (ci : Dev nD × KI) : Env (F := F) m κ ⊢ cellInv ER (ringRd m) (κ ci) (kcell ci) := by
  unfold Env; exact sep_elim_left.trans (bigSep_elim (Finset.mem_univ ci))
/-- The shared facts hold that every cell has reached its first round. -/
theorem Env_reached (ci : Dev nD × KI) : Env (F := F) m κ ⊢ reached ER (kcell ci) 0 := by
  unfold Env; exact sep_elim_right.trans (sep_elim_left.trans (bigSep_elim (Finset.mem_univ ci)))

/-! ## Bringing chunks of the argument in: `false` the own half's, `true` the other half's -/

abbrev argL : Loc nD τ sig := (c : Thread nD τ).loc main_arg0
def lM : Bool → Memref sig .tc .vmem S2x128x4096 .f32 | false => mineM | true => theirsM
def lsm : Bool → ℕ → DmaSem sig | false => smine | true => stheirs
def lrow : Bool → ℕ → Memref sig .tc .hbm S128x4096 .f32 | false => mrow c | true => trow c
def lset : Bool → ℕ → Finset (Idx (argL c)) | false => fun k => (mrow c k).view.set | true => fun k => (trow c k).view.set
def lval : Bool → ℕ → Vec F S128x4096 .f32 | false => mch m c | true => tch m c
/-- The share of the argument each slot's copies read at. -/
def lsh : Bool → ℕ → PosShare TreeShare
  | false, k => if k % 2 = 0 then fullShare.left.left else fullShare.left.right
  | true, k => if k % 2 = 0 then fullShare.right.left else fullShare.right.right

def LdIdle (b : Bool) (k : ℕ) : sProp 𝕄 := iprop(any_ c (slot2 (lM b) k) ∗ sv c (lsm b k) ∗ (argL c ↦{lsh b k} A0 m c))
def LdHere (b : Bool) (k : ℕ) : sProp 𝕄 := iprop(own_ c (slot2 (lM b) k) (lval m c b k) ∗ sv c (lsm b k) ∗ (argL c ↦{lsh b k} A0 m c))
def LdFly (b : Bool) (k : ℕ) : sProp 𝕄 :=
  iprop(Fl c (lsm b k) NL iprop(own_ c (slot2 (lM b) k) (lval m c b k) ∗ (argL c ↦[lset c b k]{lsh b k} A0 m c)) ∗ (argL c ↦[Finset.univ \ lset c b k]{lsh b k} A0 m c))
def LdF (b : Bool) (k : ℕ) : sProp 𝕄 := if k < 16 then LdFly m c b k else LdIdle m c b k
/-- Before chunk `k`: its slot filling (if there is a chunk `k`), the other idle. -/
def Ld (b : Bool) (k : ℕ) : sProp 𝕄 := iprop(LdF m c b k ∗ LdIdle m c b (k + 1))

/-- The share a slot's copies read at depends on the chunk's number modulo two. -/
theorem lsh_congr (b : Bool) {k k' : ℕ} (h : k % 2 = k' % 2) : lsh b k = lsh b k' := by cases b <;> simp only [lsh, h]
/-- A load semaphore depends on the chunk's number modulo two. -/
theorem lsm_congr (b : Bool) {k k' : ℕ} (h : k % 2 = k' % 2) : lsm b k = lsm b k' := by cases b <;> exact sem2_congr _ h
/-- The load semaphores are at level 0. -/
theorem lvS_lsm (b : Bool) (k : ℕ) : lvS (.dma (lsm b k)) = 0 := by
  cases b
  · exact lvS_smine k
  · exact lvS_stheirs k

/-- An idle load slot depends on the chunk's number modulo two. -/
theorem LdIdle_congr (b : Bool) {k k' : ℕ} (h : k % 2 = k' % 2) : LdIdle m c b k = LdIdle m c b k' := by
  unfold LdIdle; rw [slot2_congr (lM b) h, lsm_congr b h, lsh_congr b h]

/-- A load slot whose chunk is used is idle. -/
theorem LdHere_idle (b : Bool) (k : ℕ) : LdHere m c b k ⊢ LdIdle m c b k := by
  unfold LdHere LdIdle; iintro ⟨H1, H2⟩
  isplitl [H1]
  · iexists _; iexact H1
  · iexact H2

/-- A load into an idle slot is started. -/
theorem wp_ldStart (b : Bool) (k : ℕ) {K : P F} {Q : PUnit → sProp 𝕄} :
    LdIdle m c b k ⊢ iprop((LdFly m c b k -∗ WP c K Q) -∗ WP c (ldStart (lrow c b k) (slot2 (lM b) k) (lsm b k) K) Q) := by
  unfold LdIdle LdFly
  iintro ⟨Hs, Hv, Ha⟩ Hk
  ihave Ha := (pointsTo_split_subset (Finset.subset_univ (lset c b k))).1 $$ Ha
  icases Ha with ⟨Ha, Hrest⟩
  cases b
  · iapply (wp_start c (src := mrow c k) (dst := slot2 mineM k) (sm := smine k) (q := lsh false k) (fs := A0 m c)) $$ [Hs Hv Ha]
    · isplitl [Ha]; · iexact Ha
      isplitl [Hs]; · iexact Hs
      iexact Hv
    iintro HF
    iapply Hk
    isplitl [HF]; · iexact HF
    iexact Hrest
  · iapply (wp_start c (src := trow c k) (dst := slot2 theirsM k) (sm := stheirs k) (q := lsh true k) (fs := A0 m c)) $$ [Hs Hv Ha]
    · isplitl [Ha]; · iexact Ha
      isplitl [Hs]; · iexact Hs
      iexact Hv
    iintro HF
    iapply Hk
    isplitl [HF]; · iexact HF
    iexact Hrest

/-- A load is waited for: the slot holds the chunk. -/
theorem wp_ldWait (b : Bool) (k : ℕ) (kx ky : ℕ) {K : P F} {Q : PUnit → sProp 𝕄} :
    iprop(LdFly m c b k ∗ Ow c kx ky ∗ Env m κ)
      ⊢ iprop((iprop(LdHere m c b k ∗ Ow c kx ky) -∗ WP c K Q) -∗ WP c (ldWait (lrow c b k) (slot2 (lM b) k) (lsm b k) K) Q) := by
  unfold LdFly LdHere
  iintro ⟨⟨HF, Hrest⟩, HO, #HE⟩ Hk
  iapply (wp_waitL c (lvS_lsm b k) (rfl : (slot2 (lM b) k).view.dmaCredit = NL) kx ky) $$ [HF HO]
  · isplitl [HF]; · iexact HF
    isplitl [HO]; · iexact HO
    iapply (Env_lev m κ); iexact HE
  iintro ⟨⟨Hs, Ha⟩, Hv, HO⟩
  iapply Hk
  isplitr [HO]
  · isplitl [Hs]; · iexact Hs
    isplitl [Hv]; · iexact Hv
    iapply (pointsTo_split_subset (Finset.subset_univ (lset c b k))).2
    isplitl [Ha] <;> iassumption
  · iexact HO

/-- The next chunk is started on, chunk `k` awaited. -/
theorem wp_fetch (b : Bool) {k : ℕ} (hk : k < 16) (kx ky : ℕ) {K : P F} {Q : PUnit → sProp 𝕄} :
    iprop(Ld m c b k ∗ Ow c kx ky ∗ Env m κ)
      ⊢ iprop((iprop(LdHere m c b k ∗ LdF m c b (k + 1) ∗ Ow c kx ky) -∗ WP c K Q)
        -∗ WP c (onlyIf (decide (k + 1 < 16)) (ldStart (lrow c b (k + 1)) (slot2 (lM b) (k + 1)) (lsm b (k + 1)))
            (ldWait (lrow c b k) (slot2 (lM b) k) (lsm b k) K)) Q) := by
  unfold Ld
  rw [show LdF m c b k = LdFly m c b k from if_pos hk]
  iintro ⟨⟨HF, HI⟩, HO, #HE⟩ Hk
  by_cases h : k + 1 < 16
  · rw [show LdF m c b (k + 1) = LdFly m c b (k + 1) from if_pos h, decide_eq_true h]
    iapply (wp_ldStart m c b (k + 1)) $$ HI
    iintro HI
    iapply (wp_ldWait m κ c b k kx ky) $$ [HF HO]
    · isplitl [HF]; · iexact HF
      isplitl [HO]; · iexact HO
      iexact HE
    iintro ⟨H, HO⟩
    iapply Hk
    isplitl [H]; · iexact H
    isplitl [HI] <;> iassumption
  · rw [show LdF m c b (k + 1) = LdIdle m c b (k + 1) from if_neg h, decide_eq_false h]
    iapply (wp_ldWait m κ c b k kx ky) $$ [HF HO]
    · isplitl [HF]; · iexact HF
      isplitl [HO]; · iexact HO
      iexact HE
    iintro ⟨H, HO⟩
    iapply Hk
    isplitl [H]; · iexact H
    isplitl [HI] <;> iassumption

/-! ## Sending -/

def peer : Bool → Dev nD → Dev nD | false => peerX | true => peerY
def sM : Bool → Memref sig .tc .vmem S4x128x4096 .bf16 | false => xsendM | true => ysendM
def rM : Bool → Memref sig .tc .vmem S2048x4096 .bf16 | false => xrecvM | true => yrecvM
/-- The send buffers are whole arrays. -/
theorem sM_whole : ∀ b, (sM b).IsWhole | false => whole_ _ | true => whole_ _
/-- The receive buffers are whole arrays. -/
theorem rM_whole : ∀ b, (rM b).IsWhole | false => whole_ _ | true => whole_ _
def ssm : Bool → ℕ → DmaSem sig | false => sx | true => sy
def rsm : Bool → ℕ → DmaSem sig | false => rx | true => ry
def sval : Bool → ℕ → Vec F S128x4096 .bf16 | false => xv m c | true => yv m c

abbrev rcell (b : Bool) (k : ℕ) : GSem nD τ sig := ((c : Thread nD τ), .dma (rsm b k))
/-- The receive semaphores, by the protocol's index. -/
theorem rsm_eq (b : Bool) {k : ℕ} (hk : k < 16) : SemLoc.dma (rsm b k) = csem (some (b, ⟨k, hk⟩)) := by cases b <;> rfl
/-- The receive cells, by the protocol's index. -/
theorem rcell_eq (b : Bool) {k : ℕ} (hk : k < 16) : rcell c b k = kcell (c, some (b, ⟨k, hk⟩)) := by unfold rcell; rw [rsm_eq b hk]

/-- What a receive cell hands over is the chunk the neighbour sends. -/
theorem rcvPay_eq (b : Bool) (k : ℕ) : rcvPay m c b k = own_ c (chunk (rM b) k) (sval m (peer b c) b k) := by cases b <;> rfl

/-- The neighbour's neighbour is the device itself. -/
theorem peer_peer (b : Bool) : peer b (peer b c) = c := by
  cases b
  · exact peerX_peerX c
  · exact peerY_peerY c

/-- A send semaphore depends on the chunk's number modulo four. -/
theorem ssm_congr (b : Bool) {k k' : ℕ} (h : k % 4 = k' % 4) : ssm b k = ssm b k' := by cases b <;> exact sem4_congr _ h
/-- The send semaphores are at level 0. -/
theorem lvS_ssm (b : Bool) (k : ℕ) : lvS (.dma (ssm b k)) = 0 := by
  cases b
  · exact lvS_sx k
  · exact lvS_sy k

def SdIdle (b : Bool) (k : ℕ) : sProp 𝕄 := iprop(any_ (F := F) c (slot4 (sM b) k) ∗ sv c (ssm b k))
def SdFly (b : Bool) (k : ℕ) : sProp 𝕄 := Fl c (ssm b k) N (own_ c (slot4 (sM b) k) (sval m c b k))
/-- Slot `k % 4` before chunk `k`: in flight with chunk `k - 4` if there is one. -/
def SdSt (b : Bool) (k : ℕ) : sProp 𝕄 := if 4 ≤ k then SdFly m c b (k - 4) else SdIdle (F := F) c b k
/-- The four slots before chunk `k`. -/
def Sd (b : Bool) (k : ℕ) : sProp 𝕄 := iprop(SdSt m c b k ∗ SdSt m c b (k + 1) ∗ SdSt m c b (k + 2) ∗ SdSt m c b (k + 3))

/-- An idle send slot depends on the chunk's number modulo four. -/
theorem SdIdle_congr (b : Bool) {k k' : ℕ} (h : k % 4 = k' % 4) : SdIdle (F := F) c b k = SdIdle (F := F) c b k' := by
  unfold SdIdle; rw [slot4_congr (sM b) h, ssm_congr b h]

/-- A send is waited for: its slot is idle again. -/
theorem wp_sentWait (b : Bool) (k : ℕ) (kx ky : ℕ) {K : P F} {Q : PUnit → sProp 𝕄} :
    iprop(SdFly m c b k ∗ Ow c kx ky ∗ Env m κ)
      ⊢ iprop((iprop(SdIdle (F := F) c b k ∗ Ow c kx ky) -∗ WP c K Q) -∗ WP c (sentWait (sM b) (sM_whole b) (rM b) (rM_whole b) (ssm b k) k K) Q) := by
  unfold SdFly SdIdle
  iintro ⟨HF, HO, #HE⟩ Hk
  iapply (wp_waitL c (lvS_ssm b k) (rfl : (slot4 (sM b) k).view.dmaCredit = N) kx ky) $$ [HF HO]
  · isplitl [HF]; · iexact HF
    isplitl [HO]; · iexact HO
    iapply (Env_lev m κ); iexact HE
  iintro ⟨Hs, Hv, HO⟩
  iapply Hk
  isplitr [HO]
  · isplitl [Hs]
    · iexists _; iexact Hs
    · iexact Hv
  · iexact HO

/-- The slot for chunk `k` is freed. -/
theorem wp_free (b : Bool) (k : ℕ) (kx ky : ℕ) {K : P F} {Q : PUnit → sProp 𝕄} :
    iprop(SdSt m c b k ∗ Ow c kx ky ∗ Env m κ)
      ⊢ iprop((iprop(SdIdle (F := F) c b k ∗ Ow c kx ky) -∗ WP c K Q)
        -∗ WP c (onlyIf (decide (4 ≤ k)) (sentWait (sM b) (sM_whole b) (rM b) (rM_whole b) (ssm b (k - 4)) (k - 4)) K) Q) := by
  unfold SdSt
  by_cases h : 4 ≤ k
  · rw [if_pos h, decide_eq_true h, SdIdle_congr c b (show k % 4 = (k - 4) % 4 by omega)]
    exact wp_sentWait m κ c b (k - 4) kx ky
  · rw [if_neg h, decide_eq_false h]
    iintro ⟨H, HO, -⟩ Hk
    iapply Hk
    isplitl [H] <;> iassumption

/-- What sending chunk `k` takes: the duty at the receiver's cell, the receiver's chunk. -/
def Tok (b : Bool) (k : ℕ) : sProp 𝕄 := iprop(dutyTok ER (rcell (peer b c) b k) 0 false ∗ any_ (F := F) (peer b c) (chunk (rM b) k))

/-- A filled slot is sent: one debt is paid, the slot is in flight. -/
theorem wp_sendSlot (b : Bool) {k : ℕ} (hk : k < 16) {d : Dev nD} (hd : d = peer b c) {Oa Ob : CellTallies nD τ sig Unit}
    (hO : Oa = Ob + tallyAt (rcell (peer b c) b k) () N) {K : P F} {Q : PUnit → sProp 𝕄} :
    iprop(own_ c (slot4 (sM b) k) (sval m c b k) ∗ sv c (ssm b k) ∗ Tok (F := F) c b k ∗ (∃ W, owes (c : Thread nD τ) Oa W) ∗ Env m κ)
      ⊢ iprop((iprop(SdFly m c b k ∗ (∃ W, owes (c : Thread nD τ) Ob W)) -∗ WP c K Q)
        -∗ WP c (send (sM b) (sM_whole b) (rM b) (rM_whole b) (ssm b k) (rsm b k) d k K) Q) := by
  unfold Tok SdFly
  rw [rcell_eq _ b hk]
  iintro ⟨Hs, Hv, ⟨Ht, Hd⟩, HO, #HE⟩ Hk
  iapply (wp_send m c (b, ⟨k, hk⟩) (κ := κ (peer b c, some (b, ⟨k, hk⟩))) (rsm_eq b hk) hd
    (by rw [rcvPay_eq, peer_peer]) hO) $$ [Hs Hv Ht Hd HO]
  · isplitl [Hs]; · iexact Hs
    isplitl [Hd]; · iexact Hd
    isplitl [Hv]; · iexact Hv
    isplitl [HO]; · iexact HO
    isplitr; · iapply (Env_inv m κ); iexact HE
    isplitl [Ht]; · iexact Ht
    iapply (Env_reached m κ); iexact HE
  iintro ⟨HF, HO⟩
  iapply Hk
  isplitl [HF] <;> iassumption

/-! ## Receiving -/

def Await (b : Bool) (k : ℕ) : sProp 𝕄 := iprop(atPos ER (rcell c b k) 0 ∅ 0 ∗ cred (tallyAt (rcell c b k) () N))
def Got (b : Bool) (k : ℕ) : sProp 𝕄 := iprop(atPos ER (rcell c b k) 1 ∅ 0 ∗ own_ c (chunk (rM b) k) (sval m (peer b c) b k))

/-- A chunk is waited for: it holds what the neighbour sent. -/
theorem wp_recvWait (b : Bool) {k : ℕ} (hk : k < 16) {kx ky : ℕ}
    (hmw : (levAts L lv : sProp 𝕄) ⊢ MayWait (c : Thread nD τ) (.dma (rsm b k)) () (Orem c kx ky)) {K : P F} {Q : PUnit → sProp 𝕄} :
    iprop(Await (F := F) c b k ∗ Ow c kx ky ∗ Env m κ)
      ⊢ iprop((iprop(Got m c b k ∗ Ow c kx ky) -∗ WP c K Q) -∗ WP c (recvWait (sM b) (sM_whole b) (rM b) (rM_whole b) (rsm b k) k K) Q) := by
  unfold Await Got
  rw [rcell_eq _ b hk]
  iintro ⟨⟨Ha, Hc⟩, HO, #HE⟩ Hk
  have hr := wp_recv m c (src := slot4 (sM b) k) (dst := chunk (rM b) k)
    (hsrc := ((sM_whole b).wordExact_slice rfl _ (words4 k)).reshape _ _) (hdst := (rM_whole b).wordExact_slice rfl _ (words16 k)) (b, ⟨k, hk⟩) (κ := κ (c, some (b, ⟨k, hk⟩))) (rsm_eq b hk) (K := K) (Q := Q) hmw
  rw [rcvPay_eq] at hr
  iapply hr $$ [Ha Hc HO]
  · isplitr; · iapply (Env_inv m κ (c, some (b, ⟨k, hk⟩))); iexact HE
    isplitl [Hc]; · iexact Hc
    isplitl [Ha]; · iexact Ha
    isplitl [HO]; · iexact HO
    iapply (Env_lev m κ); iexact HE
  iintro ⟨Ha, Hp, HO⟩
  iapply Hk
  isplitr [HO]
  · isplitl [Ha] <;> iassumption
  · iexact HO

/-! ## Writing the result -/

/-- Rows `p` of the result, still to be written; written. -/
def Todo (p : Bool × ℕ) : sProp 𝕄 := any_ (F := F) c (orow c p)
def Done (p : Bool × ℕ) : sProp 𝕄 := own_ c (orow c p) (res m c p)
def DoneO : Option (Bool × ℕ) → sProp 𝕄 | none => iprop(emp) | some p => Done m c p

/-- Slot `s % 2` of the output buffer: idle, or in flight to rows `p`. -/
def OIdle (s : ℕ) : sProp 𝕄 := iprop(any_ (F := F) c (slot2 outcM s) ∗ sv c (so s))
def OFly (s : ℕ) (p : Bool × ℕ) : sProp 𝕄 := Fl c (so s) NL iprop(own_ c (orow c p) (res m c p) ∗ any_ (F := F) c (slot2 outcM s))
def OSt (s : ℕ) : Option (Bool × ℕ) → sProp 𝕄 | none => OIdle (F := F) c s | some p => OFly m c s p

/-- An output slot depends on the chunk's number modulo two. -/
theorem OSt_congr {s s' : ℕ} (h : s % 2 = s' % 2) (o : Option (Bool × ℕ)) : OSt m c s o = OSt m c s' o := by
  cases o <;> simp only [OSt, OIdle, OFly, slot2_congr outcM h, so, sem2_congr cc0_scratch13 h]

/-- A store of the result is waited for: its rows are written, its slot is idle. -/
theorem wp_outWait (p : Bool × ℕ) (kx ky : ℕ) {K : P F} {Q : PUnit → sProp 𝕄} :
    iprop(OSt m c p.2 (some p) ∗ Ow c kx ky ∗ Env m κ)
      ⊢ iprop((iprop(OIdle (F := F) c p.2 ∗ Done m c p ∗ Ow c kx ky) -∗ WP c K Q) -∗ WP c (outWait c p K) Q) := by
  unfold OSt OFly OIdle Done
  iintro ⟨HF, HO, #HE⟩ Hk
  iapply (wp_waitL c (lvS_so p.2) (rfl : (orow c p).view.dmaCredit = NL) kx ky) $$ [HF HO]
  · isplitl [HF]; · iexact HF
    isplitl [HO]; · iexact HO
    iapply (Env_lev m κ); iexact HE
  iintro ⟨⟨Hd, Hs⟩, Hv, HO⟩
  iapply Hk
  isplitl [Hs Hv]
  · isplitl [Hs] <;> iassumption
  isplitl [Hd] <;> iassumption

/-- From an idle slot: it is filled, the write of rows `q` starts. -/
theorem wp_outFill (q : Bool × ℕ) {v : FVec F S128x4096 .f32} (hv : smat (slotPay v) = res m c q) {K : P F} {Q : PUnit → sProp 𝕄} :
    iprop(OIdle (F := F) c q.2 ∗ Todo (F := F) c q)
      ⊢ iprop((OSt m c q.2 (some q) -∗ WP c K Q) -∗ WP c (get2 outcM q.2 fun _ => put2 outcM q.2 (slotPay v) (outStart c q K)) Q) := by
  unfold OIdle Todo
  iintro ⟨⟨⟨%X, Hs⟩, Hv⟩, Hd⟩ Hk
  iapply (wp_get2 c) $$ Hs
  iintro Hs
  iapply (wp_put2 c) $$ [Hs]; · iexists X; iexact Hs
  iintro Hs
  rw [hv]
  ihave Hs := (Entails.of_eq (owns.eq_1 _ _ _ _)) $$ Hs
  icases Hs with ⟨%f, %hf, Hs⟩
  iapply (wp_start c (src := slot2 outcM q.2) (dst := orow c q) (sm := so q.2) (q := fullShare) (fs := f)) $$ [Hs Hv Hd]
  · isplitl [Hs]; · iexact Hs
    isplitl [Hd]; · iexact Hd
    iexact Hv
  iintro HF
  iapply Hk
  unfold OSt OFly
  iapply (Transfers.Flight_mono EC (c : Thread nD τ) ?_) $$ HF
  rw [hf]
  exact sep_mono_right ((own_of c hf).trans (by iintro H; iexists _; iexact H))

/-- A chunk of the result is put in its slot, after the store before it there, and its own store is started. -/
theorem wp_storeOut (o : Option (Bool × ℕ)) (q : Bool × ℕ) {s : ℕ} (hs : s % 2 = q.2 % 2) (ho : ∀ p ∈ o, p.2 % 2 = q.2 % 2) {v : FVec F S128x4096 .f32}
    (hv : smat (slotPay v) = res m c q) (kx ky : ℕ) {K : P F} {Q : PUnit → sProp 𝕄} :
    iprop(OSt m c s o ∗ Todo (F := F) c q ∗ Ow c kx ky ∗ Env m κ)
      ⊢ iprop((iprop(OSt m c s (some q) ∗ DoneO m c o ∗ Ow c kx ky) -∗ WP c K Q) -∗ WP c (storeOut c o q v K) Q) := by
  rw [OSt_congr m c hs (some q)]
  cases o with
  | none =>
    rw [OSt_congr m c hs none, show OSt m c q.2 none = OIdle (F := F) c q.2 from rfl]
    unfold storeOut DoneO
    dsimp only
    iintro ⟨HI, HT, HO, #HE⟩ Hk
    iapply (wp_outFill m c q hv) $$ [HI HT]
    · isplitl [HI] <;> iassumption
    iintro H
    iapply Hk
    isplitl [H]; · iexact H
    isplitr; · iempintro
    iexact HO
  | some p =>
    have hp : p.2 % 2 = q.2 % 2 := ho p rfl
    rw [OSt_congr m c (hs.trans hp.symm) (some p)]
    unfold storeOut DoneO
    dsimp only
    iintro ⟨HI, HT, HO, #HE⟩ Hk
    iapply (wp_outWait m κ c p kx ky) $$ [HI HO]
    · isplitl [HI]; · iexact HI
      isplitl [HO]; · iexact HO
      iexact HE
    iintro ⟨HI, HD, HO⟩
    iapply (wp_outFill m c q hv) $$ [HI HT]
    · isplitl [HI]
      · iapply (Entails.of_eq (show OIdle (F := F) c p.2 = OIdle (F := F) c q.2 from OSt_congr m c hp none)) $$ HI
      · iexact HT
    iintro H
    iapply Hk
    isplitl [H]; · iexact H
    isplitl [HD] <;> iassumption

/-! ## The steps -/

/-- What the second exchange's chunk `i` takes to be received and written out, and what is left then. -/
def A2 (i : ℕ) : sProp 𝕄 := iprop(Await (F := F) c true i ∗ Todo (F := F) c (true, i))

/-- A received chunk is widened and its store is started. -/
theorem wp_drain (o : Option (Bool × ℕ)) {i : ℕ} (hi : i < 16) {s : ℕ} (hs : s % 2 = i % 2) (ho : ∀ p ∈ o, p.2 % 2 = i % 2) {kx ky : ℕ}
    (hmw : (levAts L lv : sProp 𝕄) ⊢ MayWait (c : Thread nD τ) (.dma (ry i)) () (Orem c kx ky)) {K : P F} {Q : PUnit → sProp 𝕄} :
    iprop(A2 (F := F) c i ∗ OSt m c s o ∗ Ow c kx ky ∗ Env m κ)
      ⊢ iprop((iprop(Got m c true i ∗ OSt m c s (some (true, i)) ∗ DoneO m c o ∗ Ow c kx ky) -∗ WP c K Q) -∗ WP c (drain c o i K) Q) := by
  unfold A2 drain
  iintro ⟨⟨HA, HT⟩, HS, HO, #HE⟩ Hk
  iapply (wp_recvWait m κ c true hi hmw) $$ [HA HO]
  · isplitl [HA]; · iexact HA
    isplitl [HO]; · iexact HO
    iexact HE
  unfold Got
  iintro ⟨⟨Hp, Hc⟩, HO⟩
  iapply (wp_getChunk c) $$ Hc
  iintro Hc
  iapply (wp_storeOut m κ c o (true, i) hs ho rfl kx ky) $$ [HS HT HO]
  · isplitl [HS]; · iexact HS
    isplitl [HT]; · iexact HT
    isplitl [HO]; · iexact HO
    iexact HE
  iintro ⟨HS, HD, HO⟩
  iapply Hk
  isplitl [Hp Hc]
  · isplitl [Hp] <;> iassumption
  isplitl [HS]; · iexact HS
  isplitl [HD] <;> iassumption

/-- Before chunk `k` of the first exchange. -/
def TSt (k : ℕ) : sProp 𝕄 := iprop(Ld m c true k ∗ Sd m c false k ∗ bigSep (Finset.Ico k 16) (Tok (F := F) c false))

/-- One step of the first exchange. -/
theorem wp_tstep {k : ℕ} (hk : k < 16) (ky : ℕ) {K : P F} {Q : PUnit → sProp 𝕄} :
    iprop(TSt m c k ∗ Ow c k ky ∗ Env m κ)
      ⊢ iprop((iprop(TSt m c (k + 1) ∗ Ow c (k + 1) ky) -∗ WP c K Q) -∗ WP c (tstep c k K) Q) := by
  unfold TSt tstep
  rw [bigSep_Ico_succ_bot hk]
  iintro ⟨⟨HL, HS, ⟨HT, HTs⟩⟩, HO, #HE⟩ Hk
  unfold Ld
  icases HL with ⟨HL0, HL1⟩
  iapply (wp_fetch m κ c true hk k ky) $$ [HL0 HL1 HO]
  · isplitl [HL0 HL1]
    · unfold Ld; isplitl [HL0] <;> iassumption
    isplitl [HO]; · iexact HO
    iexact HE
  iintro ⟨HH, HF, HO⟩
  unfold Sd
  icases HS with ⟨HS0, HS1, HS2, HS3⟩
  iapply (wp_free m κ c false k k ky) $$ [HS0 HO]
  · isplitl [HS0]; · iexact HS0
    isplitl [HO]; · iexact HO
    iexact HE
  iintro ⟨HS0, HO⟩
  unfold LdHere
  icases HH with ⟨Hs, Hv, Ha⟩
  iapply (wp_get2 c) $$ Hs
  iintro Hs
  unfold SdIdle
  icases HS0 with ⟨⟨%X, HX⟩, Hsv⟩
  iapply (wp_get4 c) $$ HX
  iintro HX
  iapply (wp_put4 c) $$ [HX]; · iexists X; iexact HX
  iintro HX
  iapply (wp_sendSlot m κ c false hk (dX_eq hk c) (Orem_x c hk ky)) $$ [HX Hsv HT HO]
  · isplitl [HX]; · iexact HX
    isplitl [Hsv]; · iexact Hsv
    isplitl [HT]; · iexact HT
    isplitl [HO]; · iexact HO
    iexact HE
  iintro ⟨HFly, HO⟩
  iapply Hk
  isplitr [HO]
  · isplitl [HF Hs Hv Ha]
    · isplitl [HF]; · iexact HF
      iapply (Entails.of_eq (LdIdle_congr m c true (show k % 2 = (k + 1 + 1) % 2 by omega)))
      iapply (LdHere_idle m c true k)
      unfold LdHere
      isplitl [Hs]; · iexact Hs
      isplitl [Hv] <;> iassumption
    isplitr [HTs]
    · isplitl [HS1]; · iexact HS1
      isplitl [HS2]; · iexact HS2
      isplitl [HS3]; · iexact HS3
      unfold SdSt
      rw [if_pos (by omega), show k + 1 + 3 - 4 = k by omega]
      iexact HFly
    · iexact HTs
  · iexact HO

/-- What chunk `j` of the second exchange takes; what is left of it. -/
def A1 (j : ℕ) : sProp 𝕄 := iprop(Await (F := F) c false j ∗ Tok (F := F) c true j ∗ Todo (F := F) c (false, j))
def B1 (j : ℕ) : sProp 𝕄 := iprop(Got m c false j ∗ DoneO m c (pendM j) ∗ if 2 ≤ j then Done m c (false, j) else iprop(emp))

/-- Before chunk `j` of the second exchange. -/
def MSt (j : ℕ) : sProp 𝕄 :=
  iprop(Ld m c false j ∗ Sd m c true j ∗ OSt m c j (pendM j) ∗ OSt m c (j + 1) (pendM (j + 1))
    ∗ bigSep (Finset.Ico j 16) (A1 (F := F) c) ∗ bigSep (Finset.range j) (B1 m c)
    ∗ bigSep (Finset.Ico (j - 2) 16) (A2 (F := F) c) ∗ bigSep (Finset.range (j - 2)) (Got m c true))

/-- The store pending in a slot has the slot's parity. -/
theorem pendM_parity (j : ℕ) : ∀ p ∈ pendM j, p.2 % 2 = j % 2 := by
  intro p hp
  by_cases h2 : 2 ≤ j <;> by_cases h4 : 4 ≤ j <;> simp only [pendM, h2, h4, decide_true, decide_false, Option.mem_def, Option.some.injEq, reduceCtorEq] at hp <;>
    (subst hp; dsimp only; omega)
/-- In the first steps the pending store is of the own half. -/
theorem pendM_early {j : ℕ} (h : j < 2) : pendM (j + 2) = some (false, j) := by
  simp only [pendM, show 2 ≤ j + 2 by omega, show ¬ 4 ≤ j + 2 by omega, decide_true, decide_false, Nat.add_sub_cancel]
/-- Later the pending store is of the half that arrives. -/
theorem pendM_late {j : ℕ} (h : 2 ≤ j) : pendM (j + 2) = some (true, j - 2) := by
  simp only [pendM, show 2 ≤ j + 2 by omega, show 4 ≤ j + 2 by omega, decide_true, show j + 2 - 4 = j - 2 by omega]

/-- The end of a step of the second exchange: from the third on, a received chunk is written out. -/
theorem wp_mtail {j kx : ℕ} (hj : j < 16) (hx : j + 1 ≤ kx) {K : P F} {Q : PUnit → sProp 𝕄} :
    iprop(OSt m c j (some (false, j)) ∗ bigSep (Finset.Ico (j - 2) 16) (A2 (F := F) c) ∗ bigSep (Finset.range (j - 2)) (Got m c true) ∗ Ow c kx (j + 1) ∗ Env m κ)
      ⊢ iprop((iprop(OSt m c (j + 1 + 1) (pendM (j + 1 + 1)) ∗ (if 2 ≤ j then Done m c (false, j) else iprop(emp)) ∗ bigSep (Finset.Ico (j + 1 - 2) 16) (A2 (F := F) c)
          ∗ bigSep (Finset.range (j + 1 - 2)) (Got m c true) ∗ Ow c kx (j + 1)) -∗ WP c K Q)
        -∗ WP c (onlyIf (decide (2 ≤ j)) (drain c (some (false, j)) (j - 2)) K) Q) := by
  rw [show j + 1 + 1 = j + 2 from rfl, OSt_congr m c (show (j + 2) % 2 = j % 2 by omega)]
  by_cases h : 2 ≤ j
  · rw [decide_eq_true h, if_pos h, pendM_late h, show j + 1 - 2 = j - 2 + 1 by omega, bigSep_Ico_succ_bot (show j - 2 < 16 by omega) (A2 c), bigSep_range_succ (j - 2)]
    iintro ⟨HS0, ⟨HA2, HA2s⟩, HB2, HO, #HE⟩ Hk
    iapply (wp_drain m κ c (some (false, j)) (i := j - 2) (by omega) (s := j) (by omega) (fun p hp => by cases hp; dsimp only; omega)
      (mayWait_ry (kx := kx) (ky := j + 1) c (by omega) (by omega) (by omega))) $$ [HA2 HS0 HO]
    · isplitl [HA2]; · iexact HA2
      isplitl [HS0]; · iexact HS0
      isplitl [HO]; · iexact HO
      iexact HE
    iintro ⟨HG, HS0, HDj, HO⟩
    iapply Hk
    isplitl [HS0]; · iexact HS0
    isplitl [HDj]; · unfold DoneO; iexact HDj
    isplitl [HA2s]; · iexact HA2s
    isplitr [HO]
    · isplitl [HG] <;> iassumption
    · iexact HO
  · rw [decide_eq_false h, if_neg h, pendM_early (by omega), show j + 1 - 2 = j - 2 by omega]
    iintro ⟨HS0, HA2, HB2, HO, #HE⟩ Hk
    iapply Hk
    isplitl [HS0]; · iexact HS0
    isplitr; · iempintro
    isplitl [HA2]; · iexact HA2
    isplitl [HB2] <;> iassumption

/-- One step of the second exchange. -/
theorem wp_mstep {j kx : ℕ} (hj : j < 16) (hx : j + 1 ≤ kx) {K : P F} {Q : PUnit → sProp 𝕄} :
    iprop(MSt m c j ∗ Ow c kx j ∗ Env m κ)
      ⊢ iprop((iprop(MSt m c (j + 1) ∗ Ow c kx (j + 1)) -∗ WP c K Q) -∗ WP c (mstep c (gv m c) j K) Q) := by
  unfold MSt mstep
  rw [bigSep_Ico_succ_bot hj, bigSep_range_succ]
  unfold A1
  iintro ⟨⟨HL, HS, HS0, HS1, ⟨⟨HA, HT, Htd⟩, HAs⟩, HB, HA2, HB2⟩, HO, #HE⟩ Hk
  unfold Ld
  icases HL with ⟨HL0, HL1⟩
  iapply (wp_fetch m κ c false hj kx j) $$ [HL0 HL1 HO]
  · isplitl [HL0 HL1]
    · unfold Ld; isplitl [HL0] <;> iassumption
    isplitl [HO]; · iexact HO
    iexact HE
  iintro ⟨HH, HF, HO⟩
  iapply (wp_recvWait m κ c false hj (mayWait_rx (kx := kx) (ky := j) c hj (by omega) (by omega))) $$ [HA HO]
  · isplitl [HA]; · iexact HA
    isplitl [HO]; · iexact HO
    iexact HE
  unfold Got
  iintro ⟨⟨Hp, Hch⟩, HO⟩
  unfold LdHere
  icases HH with ⟨Hs, Hv, Ha⟩
  iapply (wp_get2 c) $$ Hs
  iintro Hs
  iapply (wp_getChunk c) $$ Hch
  iintro Hch
  iapply (wp_storeOut m κ c (pendM j) (false, j) rfl (pendM_parity j) rfl kx j) $$ [HS0 Htd HO]
  · isplitl [HS0]; · iexact HS0
    isplitl [Htd]; · iexact Htd
    isplitl [HO]; · iexact HO
    iexact HE
  iintro ⟨HS0, HD, HO⟩
  unfold Sd
  icases HS with ⟨HX0, HX1, HX2, HX3⟩
  iapply (wp_free m κ c true j kx j) $$ [HX0 HO]
  · isplitl [HX0]; · iexact HX0
    isplitl [HO]; · iexact HO
    iexact HE
  iintro ⟨HX0, HO⟩
  unfold SdIdle
  icases HX0 with ⟨⟨%X, HX⟩, Hsv⟩
  iapply (wp_get4 c) $$ HX
  iintro HX
  iapply (wp_put4 c) $$ [HX]; · iexists X; iexact HX
  iintro HX
  iapply (wp_sendSlot m κ c true hj (dY_eq hj c) (Orem_y c kx hj)) $$ [HX Hsv HT HO]
  · isplitl [HX]; · iexact HX
    isplitl [Hsv]; · iexact Hsv
    isplitl [HT]; · iexact HT
    isplitl [HO]; · iexact HO
    iexact HE
  iintro ⟨HFly, HO⟩
  ihave HL : iprop(LdF m c false (j + 1) ∗ LdIdle m c false (j + 1 + 1)) $$ [HF Hs Hv Ha]
  · isplitl [HF]; · iexact HF
    iapply (Entails.of_eq (LdIdle_congr m c false (show j % 2 = (j + 1 + 1) % 2 by omega)))
    iapply (LdHere_idle m c false j)
    unfold LdHere
    isplitl [Hs]; · iexact Hs
    isplitl [Hv] <;> iassumption
  ihave HS : iprop(SdSt m c true (j + 1) ∗ SdSt m c true (j + 1 + 1) ∗ SdSt m c true (j + 1 + 2) ∗ SdSt m c true (j + 1 + 3)) $$ [HX1 HX2 HX3 HFly]
  · isplitl [HX1]; · iexact HX1
    isplitl [HX2]; · iexact HX2
    isplitl [HX3]; · iexact HX3
    unfold SdSt
    rw [if_pos (by omega), show j + 1 + 3 - 4 = j by omega]
    iexact HFly
  iapply (wp_mtail m κ c hj hx) $$ [HS0 HA2 HB2 HO]
  · isplitl [HS0]; · iexact HS0
    isplitl [HA2]; · iexact HA2
    isplitl [HB2]; · iexact HB2
    isplitl [HO]; · iexact HO
    iexact HE
  iintro ⟨HS0, HDj, HA2, HB2, HO⟩
  iapply Hk
  isplitr [HO]
  · isplitl [HL]; · iexact HL
    isplitl [HS]; · iexact HS
    isplitl [HS1]; · iexact HS1
    isplitl [HS0]; · iexact HS0
    isplitl [HAs]; · iexact HAs
    isplitr [HA2 HB2]
    · isplitr [HB]
      · unfold B1 Got
        isplitl [Hp Hch]
        · isplitl [Hp] <;> iassumption
        isplitl [HD] <;> iassumption
      · iexact HB
    isplitl [HA2]; · iexact HA2
    iexact HB2
  · iexact HO

/-- Round `k`, then all rounds. -/
theorem wp_round {k : ℕ} (hk : k < 19) {K : P F} {Q : PUnit → sProp 𝕄} :
    iprop((TSt m c (min k 16) ∗ MSt m c (k - 3) ∗ Ow c (min k 16) (k - 3)) ∗ Env m κ)
      ⊢ iprop((iprop(TSt m c (min (k + 1) 16) ∗ MSt m c (k + 1 - 3) ∗ Ow c (min (k + 1) 16) (k + 1 - 3)) -∗ WP c K Q)
        -∗ WP c (round c (gv m c) k K) Q) := by
  have hm : ∀ {K : P F}, iprop((TSt m c (min (k + 1) 16) ∗ MSt m c (k - 3) ∗ Ow c (min (k + 1) 16) (k - 3)) ∗ Env m κ)
      ⊢ iprop((iprop(TSt m c (min (k + 1) 16) ∗ MSt m c (k + 1 - 3) ∗ Ow c (min (k + 1) 16) (k + 1 - 3)) -∗ WP c K Q)
        -∗ WP c (onlyIf (decide (3 ≤ k)) (mstep c (gv m c) (k - 3)) K) Q) := by
    intro K
    iintro ⟨⟨HT, HM, HO⟩, #HE⟩ Hk
    by_cases h : 3 ≤ k
    · rw [decide_eq_true h, show k + 1 - 3 = k - 3 + 1 by omega]
      iapply (wp_mstep m κ c (show k - 3 < 16 by omega) (kx := min (k + 1) 16) (by omega)) $$ [HM HO]
      · isplitl [HM]; · iexact HM
        isplitl [HO]; · iexact HO
        iexact HE
      iintro ⟨HM, HO⟩
      iapply Hk
      isplitl [HT]; · iexact HT
      isplitl [HM] <;> iassumption
    · rw [decide_eq_false h, show k + 1 - 3 = k - 3 by omega]
      iapply Hk
      isplitl [HT]; · iexact HT
      isplitl [HM] <;> iassumption
  unfold round
  by_cases h : k < 16
  · rw [decide_eq_true h]
    iintro ⟨⟨HT, HM, HO⟩, #HE⟩ Hk
    rw [show min k 16 = k by omega]
    iapply (wp_tstep m κ c h (k - 3)) $$ [HT HO]
    · isplitl [HT]; · iexact HT
      isplitl [HO]; · iexact HO
      iexact HE
    iintro ⟨HT, HO⟩
    iapply hm $$ [HT HM HO]
    · rw [show min (k + 1) 16 = k + 1 by omega]
      isplitl [HT HM HO]
      · isplitl [HT]; · iexact HT
        isplitl [HM]; · iexact HM
        iexact HO
      · iexact HE
    iexact Hk
  · rw [decide_eq_false h, show min k 16 = min (k + 1) 16 by omega]
    exact hm

/-- All the steps of both exchanges, from step `k` on. -/
theorem wp_rounds : ∀ (n k : ℕ) (h : n + k = 19) {K : P F} {Q : PUnit → sProp 𝕄},
    iprop((TSt m c (min k 16) ∗ MSt m c (k - 3) ∗ Ow c (min k 16) (k - 3)) ∗ Env m κ)
      ⊢ iprop((iprop(TSt m c 16 ∗ MSt m c 16 ∗ Ow c 16 16) -∗ WP c K Q) -∗ WP c (rounds c (gv m c) n k K) Q)
  | 0, k, h, K, Q => by
    obtain rfl : k = 19 := by omega
    iintro ⟨H, -⟩ Hk
    iapply Hk; iexact H
  | n + 1, k, h, K, Q => by
    iintro ⟨H, #HE⟩ Hk
    unfold rounds
    iapply (wp_round m κ c (show k < 19 by omega)) $$ [H]
    · isplitl [H]; · iexact H
      iexact HE
    iintro H
    iapply (wp_rounds n (k + 1) (by omega)) $$ [H]
    · isplitl [H]; · iexact H
      iexact HE
    iexact Hk

end Cert.KernelIdeal.Ring

end
-- ==== Proof.Pieces.lean ====
/- The buffers cut into their slots, chunks and rows, and put together again. -/
module

public import proofs.«01_k».proof.Proof.State

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Rectangles that tile -/

/-- Finitely many rectangles, pairwise disjoint, that cover the whole. -/
structure TileBy {s : Shape} {T : Type} [Fintype T] (r : T → Rect s) : Prop where
  disj : ∀ t t', t ≠ t' → Disjoint (r t).set (r t').set
  cov : ∀ i : s.Idx, ∃ t, i ∈ (r t).set

/-- The two slots tile a two-slot buffer. -/
theorem tile2 : TileBy fun t : Fin 2 => rect2 t.val where
  disj t t' h := Rect.unit_disjoint (0 : Fin 3) (by
    have : t.val ≠ t'.val := fun h' => h (Fin.ext h')
    have h1 := t.isLt; have h2 := t'.isLt
    show t.val % 2 + 1 ≤ t'.val % 2 ∨ t'.val % 2 + 1 ≤ t.val % 2
    omega)
  cov i := by
    have h0 : (i 0).val < 2 := (i 0).isLt
    have h1 : (i 1).val < 128 := (i 1).isLt
    have h2 : (i 2).val < 4096 := (i 2).isLt
    refine ⟨⟨(i 0).val, h0⟩, Rect.mem_set_unit.mpr fun a => ?_⟩
    match a with
    | ⟨0, _⟩ => show (i 0).val % 2 ≤ (i 0).val ∧ (i 0).val < (i 0).val % 2 + 1; omega
    | ⟨1, _⟩ => show 0 ≤ (i 1).val ∧ (i 1).val < 0 + 128; omega
    | ⟨2, _⟩ => show 0 ≤ (i 2).val ∧ (i 2).val < 0 + 4096; omega
/-- The four slots tile a four-slot buffer. -/
theorem tile4 : TileBy fun t : Fin 4 => rect4 t.val where
  disj t t' h := Rect.unit_disjoint (0 : Fin 3) (by
    have : t.val ≠ t'.val := fun h' => h (Fin.ext h')
    have h1 := t.isLt; have h2 := t'.isLt
    show t.val % 4 + 1 ≤ t'.val % 4 ∨ t'.val % 4 + 1 ≤ t.val % 4
    omega)
  cov i := by
    have h0 : (i 0).val < 4 := (i 0).isLt
    have h1 : (i 1).val < 128 := (i 1).isLt
    have h2 : (i 2).val < 4096 := (i 2).isLt
    refine ⟨⟨(i 0).val, h0⟩, Rect.mem_set_unit.mpr fun a => ?_⟩
    match a with
    | ⟨0, _⟩ => show (i 0).val % 4 ≤ (i 0).val ∧ (i 0).val < (i 0).val % 4 + 1; omega
    | ⟨1, _⟩ => show 0 ≤ (i 1).val ∧ (i 1).val < 0 + 128; omega
    | ⟨2, _⟩ => show 0 ≤ (i 2).val ∧ (i 2).val < 0 + 4096; omega
/-- The sixteen chunks tile a receive buffer. -/
theorem tile16 : TileBy fun t : Fin 16 => rect16 t.val where
  disj t t' h := Rect.unit_disjoint (0 : Fin 2) (by
    have : t.val ≠ t'.val := fun h' => h (Fin.ext h')
    have h1 := t.isLt; have h2 := t'.isLt
    show 128 * (t.val % 16) + 128 ≤ 128 * (t'.val % 16) ∨ 128 * (t'.val % 16) + 128 ≤ 128 * (t.val % 16)
    omega)
  cov i := by
    have h0 : (i 0).val < 2048 := (i 0).isLt
    have h1 : (i 1).val < 4096 := (i 1).isLt
    refine ⟨⟨(i 0).val / 128, by omega⟩, Rect.mem_set_unit.mpr fun a => ?_⟩
    match a with
    | ⟨0, _⟩ => show 128 * ((i 0).val / 128 % 16) ≤ (i 0).val ∧ (i 0).val < 128 * ((i 0).val / 128 % 16) + 128; omega
    | ⟨1, _⟩ => show 0 ≤ (i 1).val ∧ (i 1).val < 0 + 4096; omega

/-- The first row of the half device `c` computes (`false`), of the half that arrives (`true`). -/
def base : Bool → ℕ | false => 2048 * (c.val % 2) | true => 2048 - 2048 * (c.val % 2)

/-- Which rows of the result chunk `p` is. -/
theorem mem_orect (p : Bool × Fin 16) (i : S4096x4096.Idx) :
    i ∈ (orect c (p.1, p.2.val)).set ↔ base c p.1 + 128 * p.2.val ≤ (i 0).val ∧ (i 0).val < base c p.1 + 128 * p.2.val + 128 := by
  obtain ⟨b, k⟩ := p
  have hk : r16 k.val = k := Fin.ext (Nat.mod_eq_of_lt k.isLt)
  have hm : k.val % 16 = k.val := Nat.mod_eq_of_lt k.isLt
  have h1 : (i 1).val < 4096 := (i 1).isLt
  have hy : c.val % 2 < 2 := Nat.mod_lt _ (by decide)
  have key : ∀ (off : Fin 2 → ℕ) (n : ℕ) (h : off = ![n, 0]), (∀ a, off a ≤ (i a).val ∧ (i a).val < off a + S128x4096.size a) ↔ n ≤ (i 0).val ∧ (i 0).val < n + 128 := by
    rintro off n rfl
    constructor
    · intro h; exact h 0
    · intro h a
      match a with
      | ⟨0, _⟩ => exact h
      | ⟨1, _⟩ => show 0 ≤ (i 1).val ∧ (i 1).val < 0 + 4096; omega
  cases b
  · unfold orect
    rw [Rect.mem_set_unit]
    exact key _ _ (by rw [hm]; exact k0_off3_eq c k)
  · unfold orect
    rw [Rect.mem_set_unit]
    refine key _ _ ?_
    rw [hm, k0_off4_eq c k]
    congr 1
    show 128 * k.val + 2048 - 2048 * (c.val % 2) = 2048 - 2048 * (c.val % 2) + 128 * k.val
    omega

/-- The chunks of both halves tile the result. -/
theorem tileO : TileBy fun p : Bool × Fin 16 => orect c (p.1, p.2.val) where
  disj p p' h := by
    rw [Finset.disjoint_left]
    intro i hi hi'
    rw [mem_orect] at hi hi'
    obtain ⟨b, k⟩ := p
    obtain ⟨b', k'⟩ := p'
    have h1 := k.isLt; have h2 := k'.isLt
    have hy : c.val % 2 < 2 := Nat.mod_lt _ (by decide)
    refine h ?_
    cases b <;> cases b' <;> dsimp only [base] at hi hi' <;>
      first
      | exact Prod.ext rfl (Fin.ext (by dsimp only; omega))
      | exact absurd hi (by omega)
  cov i := by
    have h0 : (i 0).val < 4096 := (i 0).isLt
    have hy : c.val % 2 < 2 := Nat.mod_lt _ (by decide)
    by_cases h : (i 0).val / 2048 = c.val % 2
    · refine ⟨(false, ⟨(i 0).val % 2048 / 128, by omega⟩), (mem_orect c _ i).mpr ?_⟩
      dsimp only [base]; omega
    · refine ⟨(true, ⟨(i 0).val % 2048 / 128, by omega⟩), (mem_orect c _ i).mpr ?_⟩
      dsimp only [base]; omega

/-! ## A whole buffer in pieces -/

section Whole
variable {sp : Space} {s : Shape} {e : EltTy} (M : Memref sig .tc sp s e) {T : Type} [Fintype T] [DecidableEq T] {r : T → Rect s}

abbrev cut (q : Rect s) : Finset (Idx (M.view.loc (c : Thread nD τ))) := (M.view.slice q).set

omit [FloatOps F] [DecidableEq T] in
/-- The pieces of a tiling are disjoint. -/
theorem cut_disj (hr : TileBy r) : ∀ t ∈ (Finset.univ : Finset T), ∀ t' ∈ (Finset.univ : Finset T), t ≠ t' → Disjoint (cut c M (r t)) (cut c M (r t')) :=
  fun t _ t' _ h => by unfold cut; rw [View.set_slice, View.set_slice]; exact (Finset.disjoint_map _).mpr (hr.disj t t' h)

omit [FloatOps F] [DecidableEq T] in
/-- The pieces of a tiling make up the whole. -/
theorem cut_union (hr : TileBy r) : (Finset.univ.biUnion fun t => cut c M (r t)) = M.view.set := by
  ext i
  rw [Finset.mem_biUnion]
  constructor
  · rintro ⟨t, -, h⟩; exact View.set_slice_subset _ _ h
  · intro h
    rw [View.set, Finset.mem_map] at h
    obtain ⟨x, -, rfl⟩ := h
    obtain ⟨t, ht⟩ := hr.cov x
    exact ⟨t, Finset.mem_univ _, by unfold cut; rw [View.set_slice]; exact Finset.mem_map_of_mem _ ht⟩

omit [FloatOps F] in
/-- A buffer gives each piece. -/
theorem split_pieces (hr : TileBy r) {Φ : T → sProp 𝕄}
    (h : ∀ t (f : Buf (Elt F) (M.view.loc (c : Thread nD τ))), (M.view.loc (c : Thread nD τ) ↦[cut c M (r t)]{fullShare} f : sProp 𝕄) ⊢ Φ t)
    (f : Buf (Elt F) (M.view.loc (c : Thread nD τ))) : (M.view.loc (c : Thread nD τ) ↦[M.view.set]{fullShare} f : sProp 𝕄) ⊢ bigSep Finset.univ Φ := by
  have := pointsTo_biUnion (Ix := Unit) (Name := ℕ) (U := UU) (Lvl := ℕ) (q := fullShare) (f := f) (Finset.univ : Finset T) (fun t => cut c M (r t)) (cut_disj c M hr)
  rw [cut_union c M hr] at this
  rw [this]
  exact bigSep_mono fun t _ => h t f

omit [FloatOps F] in
/-- The pieces give the buffer, each piece's contents in place. -/
theorem join_pieces (hr : TileBy r) (f₀ : Buf (Elt F) (M.view.loc (c : Thread nD τ))) {Φ : T → sProp 𝕄}
    {R : T → Buf (Elt F) (M.view.loc (c : Thread nD τ)) → Prop}
    (hR : ∀ t f g, R t f → (∀ i ∈ cut c M (r t), g i = f i) → R t g)
    (h : ∀ t, Φ t ⊢ iprop(∃ f : Buf (Elt F) (M.view.loc (c : Thread nD τ)), ⌜R t f⌝ ∗ (M.view.loc (c : Thread nD τ) ↦[cut c M (r t)]{fullShare} f))) :
    bigSep Finset.univ Φ ⊢ iprop(∃ f : Buf (Elt F) (M.view.loc (c : Thread nD τ)), ⌜∀ t, R t f⌝ ∗ (M.view.loc (c : Thread nD τ) ↦[M.view.set]{fullShare} f)) := by
  have : Nonempty (Buf (Elt F) (M.view.loc (c : Thread nD τ))) := ⟨f₀⟩
  have hfs : ∀ fs : T → Buf (Elt F) (M.view.loc (c : Thread nD τ)),
      (bigSep Finset.univ fun t => iprop(⌜R t (fs t)⌝ ∗ (M.view.loc (c : Thread nD τ) ↦[cut c M (r t)]{fullShare} fs t)) : sProp 𝕄)
        ⊢ iprop(∃ f : Buf (Elt F) (M.view.loc (c : Thread nD τ)), ⌜∀ t, R t f⌝ ∗ (M.view.loc (c : Thread nD τ) ↦[M.view.set]{fullShare} f)) := fun fs => by
    rw [← cut_union c M hr]
    iintro H
    ihave H := (bigSep_pure_sep Finset.univ (fun t => R t (fs t)) (fun t => M.view.loc (c : Thread nD τ) ↦[cut c M (r t)]{fullShare} fs t)) $$ H
    icases H with ⟨%hp, H⟩
    ihave H := (pointsTo_biUnion_join Finset.univ (fun t => cut c M (r t)) fs f₀ (cut_disj c M hr)) $$ H
    icases H with ⟨%g, %hg, H⟩
    iexists g
    isplitr
    · ipureintro
      exact fun t => hR t (fs t) g (hp t (Finset.mem_univ _)) fun i hi => hg t (Finset.mem_univ _) i hi
    · iexact H
  refine (bigSep_mono fun t _ => h t).trans ((bigSep_exists_pi Finset.univ _).trans ?_)
  iintro ⟨%fs, H⟩
  iapply (hfs fs) $$ H

omit [FloatOps F] in
/-- The pieces give the buffer, with some contents. -/
theorem join_any (hr : TileBy r) (f₀ : Buf (Elt F) (M.view.loc (c : Thread nD τ))) {Φ : T → sProp 𝕄}
    (h : ∀ t, Φ t ⊢ iprop(∃ f : Buf (Elt F) (M.view.loc (c : Thread nD τ)), (M.view.loc (c : Thread nD τ) ↦[cut c M (r t)]{fullShare} f))) :
    bigSep Finset.univ Φ ⊢ iprop(∃ f : Buf (Elt F) (M.view.loc (c : Thread nD τ)), (M.view.loc (c : Thread nD τ) ↦[M.view.set]{fullShare} f)) := by
  refine (join_pieces c M hr f₀ (R := fun _ _ => True) (fun _ _ _ _ _ => trivial) fun t => (h t).trans ?_).trans ?_
  · iintro ⟨%f, H⟩; iexists f; isplitr; · ipureintro; trivial
    iexact H
  · iintro ⟨%f, -, H⟩; iexists f; iexact H

/-- Some contents of a matrix. -/
abbrev some_ : sProp 𝕄 := iprop(∃ f : Buf (Elt F) (M.view.loc (c : Thread nD τ)), (M.view.loc (c : Thread nD τ) ↦[M.view.set]{fullShare} f))
end Whole

/-- Contents of a matrix, forgotten. -/
theorem any_of {sp : Space} {e : EltTy} (M : Memref sig .tc sp S128x4096 e) : some_ (F := F) c M ⊢ any_ (F := F) c M := by
  unfold any_
  iintro ⟨%f, H⟩; iexists _; iapply (owns_intro (c : Thread nD τ) M fullShare f) $$ H
/-- The converse. -/
theorem of_any {sp : Space} {e : EltTy} (M : Memref sig .tc sp S128x4096 e) : any_ (F := F) c M ⊢ some_ (F := F) c M := by
  unfold any_ own_
  iintro ⟨%X, H⟩
  ihave H := (Entails.of_eq (owns.eq_1 _ _ _ _)) $$ H
  icases H with ⟨%f, -, H⟩
  iexists f; iexact H

abbrev slots2 (M : Memref sig .tc .vmem S2x128x4096 .f32) : sProp 𝕄 := bigSep Finset.univ fun t : Fin 2 => any_ (F := F) c (slot2 M t.val)
abbrev slots4 (M : Memref sig .tc .vmem S4x128x4096 .bf16) : sProp 𝕄 := bigSep Finset.univ fun t : Fin 4 => any_ (F := F) c (slot4 M t.val)
abbrev chunks (M : Memref sig .tc .vmem S2048x4096 .bf16) : sProp 𝕄 := bigSep Finset.univ fun t : Fin 16 => any_ (F := F) c (chunk M t.val)

/-- A slot's elements, as a piece of a two-slot buffer. -/
theorem set_slot2 (M : Memref sig .tc .vmem S2x128x4096 .f32) (k : ℕ) : (slot2 M k).view.set = cut c M (rect2 k) := View.set_reshape _ _
/-- A slot's elements, as a piece of a four-slot buffer. -/
theorem set_slot4 (M : Memref sig .tc .vmem S4x128x4096 .bf16) (k : ℕ) : (slot4 M k).view.set = cut c M (rect4 k) := View.set_reshape _ _

/-- A two-slot buffer gives its slots. -/
theorem split2 (M : Memref sig .tc .vmem S2x128x4096 .f32) : some_ (F := F) c M ⊢ slots2 (F := F) c M := by
  iintro ⟨%f, H⟩
  iapply (split_pieces c M tile2 (Φ := fun t : Fin 2 => any_ (F := F) c (slot2 M t.val)) (fun t f => by
    rw [← set_slot2]; exact (show _ ⊢ some_ (F := F) c (slot2 M t.val) by iintro H; iexists f; iexact H).trans (any_of c _)) f) $$ H
/-- The slots give the two-slot buffer. -/
theorem join2 (M : Memref sig .tc .vmem S2x128x4096 .f32) (f₀ : Buf (Elt F) (M.view.loc (c : Thread nD τ))) : slots2 (F := F) c M ⊢ some_ (F := F) c M :=
  join_any c M tile2 f₀ fun t => by rw [← set_slot2]; exact of_any c _
/-- A four-slot buffer gives its slots. -/
theorem split4 (M : Memref sig .tc .vmem S4x128x4096 .bf16) : some_ (F := F) c M ⊢ slots4 (F := F) c M := by
  iintro ⟨%f, H⟩
  iapply (split_pieces c M tile4 (Φ := fun t : Fin 4 => any_ (F := F) c (slot4 M t.val)) (fun t f => by
    rw [← set_slot4]; exact (show _ ⊢ some_ (F := F) c (slot4 M t.val) by iintro H; iexists f; iexact H).trans (any_of c _)) f) $$ H
/-- The slots give the four-slot buffer. -/
theorem join4 (M : Memref sig .tc .vmem S4x128x4096 .bf16) (f₀ : Buf (Elt F) (M.view.loc (c : Thread nD τ))) : slots4 (F := F) c M ⊢ some_ (F := F) c M :=
  join_any c M tile4 f₀ fun t => by rw [← set_slot4]; exact of_any c _
/-- A receive buffer gives its chunks. -/
theorem split16 (M : Memref sig .tc .vmem S2048x4096 .bf16) : some_ (F := F) c M ⊢ chunks (F := F) c M := by
  iintro ⟨%f, H⟩
  iapply (split_pieces c M tile16 (Φ := fun t : Fin 16 => any_ (F := F) c (chunk M t.val)) (fun t f =>
    (show _ ⊢ some_ (F := F) c (chunk M t.val) by iintro H; iexists f; iexact H).trans (any_of c _)) f) $$ H
/-- The chunks give the receive buffer. -/
theorem join16 (M : Memref sig .tc .vmem S2048x4096 .bf16) (f₀ : Buf (Elt F) (M.view.loc (c : Thread nD τ))) : chunks (F := F) c M ⊢ some_ (F := F) c M :=
  join_any c M tile16 f₀ fun t => of_any c _

/-! ## The result -/

/-- The result buffer, in the rows its chunks are written to. -/
theorem split_out : some_ (F := F) c outM ⊢ bigSep Finset.univ fun p : Bool × Fin 16 => Todo (F := F) c (p.1, p.2.val) := by
  iintro ⟨%f, H⟩
  iapply (split_pieces c outM (tileO c) (Φ := fun p : Bool × Fin 16 => Todo (F := F) c (p.1, p.2.val)) (fun p f => by
    unfold Todo
    obtain ⟨_ | _, j⟩ := p
    · exact (show _ ⊢ some_ (F := F) c (orow c (false, j.val)) by iintro H; iexists f; iexact H).trans (any_of c _)
    · exact (show _ ⊢ some_ (F := F) c (orow c (true, j.val)) by iintro H; iexists f; iexact H).trans (any_of c _)) f) $$ H

/-- Rows `p` of `f` are what device `c` computes for them. -/
def ReadsRes (f : Buf (Elt F) (outM.view.loc (c : Thread nD τ))) : Bool × ℕ → Prop
  | (false, j) => (orow3 c j).view.read (Elt F) f = res m c (false, j)
  | (true, j) => (orow4 c j).view.read (Elt F) f = res m c (true, j)

/-- All rows written give the result buffer, whose rows are what the device computes for them. -/
theorem join_out (f₀ : Buf (Elt F) (outM.view.loc (c : Thread nD τ))) : (bigSep Finset.univ fun p : Bool × Fin 16 => Done m c (p.1, p.2.val))
    ⊢ iprop(∃ f : Buf (Elt F) (outM.view.loc (c : Thread nD τ)), ⌜∀ p : Bool × Fin 16, ReadsRes m c f (p.1, p.2.val)⌝ ∗ (outM.view.loc (c : Thread nD τ) ↦[outM.view.set]{fullShare} f)) := by
  refine join_pieces c outM (tileO c) f₀ (R := fun p f => ReadsRes m c f (p.1, p.2.val)) ?_ ?_
  · rintro ⟨_ | _, j⟩ f g h hg
    · exact (funext fun i => hg _ (View.emb_mem_set _ i)).trans h
    · exact (funext fun i => hg _ (View.emb_mem_set _ i)).trans h
  · rintro ⟨_ | _, j⟩
    · exact Entails.of_eq (owns.eq_1 (c : Thread nD τ) (orow3 c j.val) fullShare (res m c (false, j.val)))
    · exact Entails.of_eq (owns.eq_1 (c : Thread nD τ) (orow4 c j.val) fullShare (res m c (true, j.val)))

/-! ## The argument, shared between the four copies that read it -/

/-- The argument is shared between the four load slots. -/
theorem split_arg : (argL c ↦{fullShare} A0 m c : sProp 𝕄)
    ⊢ iprop((argL c ↦{lsh false 0} A0 m c) ∗ (argL c ↦{lsh false 1} A0 m c) ∗ (argL c ↦{lsh true 0} A0 m c) ∗ (argL c ↦{lsh true 1} A0 m c)) := by
  show _ ⊢ iprop((argL c ↦{fullShare.left.left} A0 m c) ∗ (argL c ↦{fullShare.left.right} A0 m c) ∗ (argL c ↦{fullShare.right.left} A0 m c) ∗ (argL c ↦{fullShare.right.right} A0 m c))
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H1, H2⟩
  icases HR with ⟨H3, H4⟩
  isplitl [H1]; · iexact H1
  isplitl [H2]; · iexact H2
  isplitl [H3] <;> iassumption

/-- The four shares give the argument back. -/
theorem join_arg : iprop((argL c ↦{lsh false 0} A0 m c) ∗ (argL c ↦{lsh false 1} A0 m c) ∗ (argL c ↦{lsh true 0} A0 m c) ∗ (argL c ↦{lsh true 1} A0 m c))
    ⊢ (argL c ↦{fullShare} A0 m c : sProp 𝕄) := by
  show iprop((argL c ↦{fullShare.left.left} A0 m c) ∗ (argL c ↦{fullShare.left.right} A0 m c) ∗ (argL c ↦{fullShare.right.left} A0 m c) ∗ (argL c ↦{fullShare.right.right} A0 m c)) ⊢ _
  iintro ⟨H1, H2, H3, H4⟩
  iapply (pointsTo_share (PosShare.mem_left_op_right fullShare)).2
  isplitl [H1 H2]
  · iapply (pointsTo_share (PosShare.mem_left_op_right fullShare.left)).2
    isplitl [H1] <;> iassumption
  · iapply (pointsTo_share (PosShare.mem_left_op_right fullShare.right)).2
    isplitl [H3] <;> iassumption

end Cert.KernelIdeal.Ring

end
-- ==== Proof.Body.lean ====
/- The body after the handshake, then the whole body of device `c`. -/
module

public import proofs.«01_k».proof.Proof.Pieces

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : Dev nD × KI → ℕ) (c : Dev nD)

/-! ## After the handshake -/

omit [FloatOps F] in
/-- A device that owes nothing may wait for anything. -/
theorem mayWait_end (sm : SemLoc sig) : (levAts L lv : sProp 𝕄) ⊢ MayWait (c : Thread nD τ) sm () (Orem c 16 16) := by
  rw [Orem_end, MayWait_zero]; iintro -; iempintro

/-- At the program's end nothing is left to run. -/
theorem wp_done {Q : PUnit → sProp 𝕄} : iprop(|={Set.univ}=> Q ⟨⟩) ⊢ WP c (.ret ⟨⟩ : P F) Q := by
  unfold WP; rw [wp_ret]

/-- The waits for chunk `k`'s two sends. -/
theorem wp_flush (n k : ℕ) {K : P F} {Q : PUnit → sProp 𝕄} :
    iprop(SdFly m c false k ∗ SdFly m c true k ∗ Ow c 16 16 ∗ Env m κ)
      ⊢ iprop((iprop(SdIdle (F := F) c false k ∗ SdIdle (F := F) c true k ∗ Ow c 16 16) -∗ WP c (flush n (k + 1) K) Q) -∗ WP c (flush (n + 1) k K) Q) := by
  rw [show flush (F := F) (n + 1) k K = sentWait (sM false) (sM_whole false) (rM false) (rM_whole false) (ssm false k) k
    (sentWait (sM true) (sM_whole true) (rM true) (rM_whole true) (ssm true k) k (flush n (k + 1) K)) from rfl]
  iintro ⟨HX, HY, HO, #HE⟩ Hk
  iapply (wp_sentWait m κ c false k 16 16) $$ [HX HO]
  · isplitl [HX]; · iexact HX
    isplitl [HO]; · iexact HO
    iexact HE
  iintro ⟨HX, HO⟩
  iapply (wp_sentWait m κ c true k 16 16) $$ [HY HO]
  · isplitl [HY]; · iexact HY
    isplitl [HO]; · iexact HO
    iexact HE
  iintro ⟨HY, HO⟩
  iapply Hk
  isplitl [HX]; · iexact HX
  isplitl [HY] <;> iassumption

/-- After the last chunk the last four sends are in flight. -/
theorem Sd_last (b : Bool) : Sd m c b 16 = iprop(SdFly m c b 12 ∗ SdFly m c b 13 ∗ SdFly m c b 14 ∗ SdFly m c b 15) := rfl

/-- The four slots of each send buffer, idle. -/
def SdRest (b : Bool) : sProp 𝕄 := iprop(SdIdle (F := F) c b 12 ∗ SdIdle (F := F) c b 13 ∗ SdIdle (F := F) c b 14 ∗ SdIdle (F := F) c b 15)

/-- What is left when everything is done, on the result's side. -/
def OutDone : sProp 𝕄 :=
  iprop(bigSep (Finset.range 16) (B1 m c) ∗ bigSep (Finset.range 16) (Got m c true)
    ∗ Done m c (true, 12) ∗ Done m c (true, 13) ∗ Done m c (true, 14) ∗ Done m c (true, 15))

/-- What follows the steps: the last two chunks are stored, the last sends and stores waited for. -/
theorem wp_end {Q : PUnit → sProp 𝕄} :
    iprop((Ld m c true 16 ∗ Sd m c false 16) ∗ MSt m c 16 ∗ Ow c 16 16 ∗ Env m κ)
      ⊢ iprop((iprop(Ld m c true 16 ∗ Ld m c false 16 ∗ SdRest (F := F) c false ∗ SdRest (F := F) c true ∗ OIdle (F := F) c 14 ∗ OIdle (F := F) c 15 ∗ OutDone m c ∗ Ow c 16 16) -∗ |={Set.univ}=> Q ⟨⟩)
        -∗ WP c (drain c (some (true, 12)) 14 <| drain c (some (true, 13)) 15 <| flush 4 12 <| outWait c (true, 14) <| outWait c (true, 15) <| .ret ⟨⟩) Q) := by
  unfold MSt OutDone SdRest
  rw [Sd_last, Sd_last, show (16 : ℕ) - 2 = 14 from rfl, show pendM 16 = some (true, 12) from rfl, show pendM (16 + 1) = some (true, 13) from rfl,
    bigSep_Ico_succ_bot (show 14 < 16 by omega) (A2 c), bigSep_Ico_succ_bot (show 14 + 1 < 16 by omega) (A2 c),
    show bigSep (Finset.range 16) (Got m c true) = iprop(Got m c true 15 ∗ Got m c true 14 ∗ bigSep (Finset.range 14) (Got m c true)) from by
      rw [bigSep_range_succ 15, bigSep_range_succ 14]]
  iintro ⟨⟨HLt, HX0, HX1, HX2, HX3⟩, ⟨HLm, ⟨HY0, HY1, HY2, HY3⟩, HS0, HS1, -, HB, ⟨HA0, HA1, -⟩, HG⟩, HO, #HE⟩ Hk
  iapply (wp_drain m κ c (some (true, 12)) (i := 14) (by omega) (s := 16) (by decide) (fun p hp => by cases hp; rfl) (mayWait_end c _)) $$ [HA0 HS0 HO]
  · isplitl [HA0]; · iexact HA0
    isplitl [HS0]; · iexact HS0
    isplitl [HO]; · iexact HO
    iexact HE
  iintro ⟨HG14, HS0, HD12, HO⟩
  iapply (wp_drain m κ c (some (true, 13)) (i := 15) (by omega) (s := 17) (by decide) (fun p hp => by cases hp; rfl) (mayWait_end c _)) $$ [HA1 HS1 HO]
  · isplitl [HA1]; · iexact HA1
    isplitl [HS1]; · iexact HS1
    isplitl [HO]; · iexact HO
    iexact HE
  iintro ⟨HG15, HS1, HD13, HO⟩
  iapply (wp_flush m κ c 3 12) $$ [HX0 HY0 HO]
  · isplitl [HX0]; · iexact HX0
    isplitl [HY0]; · iexact HY0
    isplitl [HO]; · iexact HO
    iexact HE
  iintro ⟨HX0, HY0, HO⟩
  iapply (wp_flush m κ c 2 13) $$ [HX1 HY1 HO]
  · isplitl [HX1]; · iexact HX1
    isplitl [HY1]; · iexact HY1
    isplitl [HO]; · iexact HO
    iexact HE
  iintro ⟨HX1, HY1, HO⟩
  iapply (wp_flush m κ c 1 14) $$ [HX2 HY2 HO]
  · isplitl [HX2]; · iexact HX2
    isplitl [HY2]; · iexact HY2
    isplitl [HO]; · iexact HO
    iexact HE
  iintro ⟨HX2, HY2, HO⟩
  iapply (wp_flush m κ c 0 15) $$ [HX3 HY3 HO]
  · isplitl [HX3]; · iexact HX3
    isplitl [HY3]; · iexact HY3
    isplitl [HO]; · iexact HO
    iexact HE
  iintro ⟨HX3, HY3, HO⟩
  iapply (show WP c (outWait c (true, 14) <| outWait c (true, 15) <| .ret ⟨⟩ : P F) Q ⊢ WP c (flush 0 16 (outWait c (true, 14) <| outWait c (true, 15) <| .ret ⟨⟩)) Q from
    Entails.of_eq rfl)
  iapply (wp_outWait m κ c (true, 14) 16 16) $$ [HS0 HO]
  · isplitl [HS0]; · iapply (Entails.of_eq (OSt_congr m c (show 16 % 2 = 14 % 2 from rfl) (some (true, 14)))) $$ HS0
    isplitl [HO]; · iexact HO
    iexact HE
  iintro ⟨HI0, HD14, HO⟩
  iapply (wp_outWait m κ c (true, 15) 16 16) $$ [HS1 HO]
  · isplitl [HS1]; · iapply (Entails.of_eq (OSt_congr m c (show 17 % 2 = 15 % 2 from rfl) (some (true, 15)))) $$ HS1
    isplitl [HO]; · iexact HO
    iexact HE
  iintro ⟨HI1, HD15, HO⟩
  iapply (wp_done c)
  iapply Hk
  isplitl [HLt]; · iexact HLt
  isplitl [HLm]; · iexact HLm
  isplitl [HX0 HX1 HX2 HX3]
  · isplitl [HX0]; · iexact HX0
    isplitl [HX1]; · iexact HX1
    isplitl [HX2] <;> iassumption
  isplitl [HY0 HY1 HY2 HY3]
  · isplitl [HY0]; · iexact HY0
    isplitl [HY1]; · iexact HY1
    isplitl [HY2] <;> iassumption
  isplitl [HI0]; · iexact HI0
  isplitl [HI1]; · iexact HI1
  isplitr [HO]
  · isplitl [HB]; · iexact HB
    isplitl [HG HG14 HG15]
    · isplitl [HG15]; · iexact HG15
      isplitl [HG14] <;> iassumption
    isplitl [HD12]; · unfold DoneO; iexact HD12
    isplitl [HD13]; · unfold DoneO; iexact HD13
    isplitl [HD14] <;> iassumption
  · iexact HO

/-- The weights' staging buffer, filled. -/
abbrev gamF : Buf (Elt F) ((c : Thread nD τ).loc cc0_stg0_0) := (win0_0.blk (0 : Fin 1)).view.read (Elt F) (m ((c : Thread nD τ).loc main_arg1))
abbrev gamPts : sProp 𝕄 := iprop(((c : Thread nD τ).loc cc0_stg0_0) ↦{fullShare} gamF m c)

/-- What the body starts from after the handshake. -/
def MainPre : sProp 𝕄 :=
  iprop(gamPts m c ∗ (LdIdle m c false 0 ∗ LdIdle m c false 1) ∗ (LdIdle m c true 0 ∗ LdIdle m c true 1)
    ∗ Sd m c false 0 ∗ Sd m c true 0 ∗ OIdle (F := F) c 0 ∗ OIdle (F := F) c 1
    ∗ bigSep (Finset.Ico 0 16) (Tok (F := F) c false) ∗ bigSep (Finset.Ico 0 16) (A1 (F := F) c) ∗ bigSep (Finset.Ico 0 16) (A2 (F := F) c) ∗ Ow c 0 0)

/-- What it ends with. -/
def MainPost : sProp 𝕄 :=
  iprop(gamPts m c ∗ (LdIdle m c false 0 ∗ LdIdle m c false 1) ∗ (LdIdle m c true 0 ∗ LdIdle m c true 1)
    ∗ SdRest (F := F) c false ∗ SdRest (F := F) c true ∗ OIdle (F := F) c 0 ∗ OIdle (F := F) c 1 ∗ OutDone m c ∗ Ow c 16 16)

/-- After the last chunk both load slots are idle. -/
theorem Ld_last (b : Bool) : Ld m c b 16 = iprop(LdIdle m c b 0 ∗ LdIdle m c b 1) := by
  unfold Ld LdF; rw [if_neg (by omega), LdIdle_congr m c b (show 16 % 2 = 0 % 2 from rfl), LdIdle_congr m c b (show (16 + 1) % 2 = 1 % 2 from rfl)]

/-- The state before the first exchange's first chunk. -/
theorem TSt_start : iprop(LdFly m c true 0 ∗ LdIdle m c true 1 ∗ Sd m c false 0 ∗ bigSep (Finset.Ico 0 16) (Tok (F := F) c false)) ⊢ TSt m c (min 0 16) := by
  rw [show min 0 16 = 0 from rfl]
  unfold TSt Ld LdF
  rw [if_pos (by omega), show 0 + 1 = 1 from rfl]
  iintro ⟨H0, H1, H2, H3⟩
  isplitl [H0 H1]; · isplitl [H0] <;> iassumption
  isplitl [H2] <;> iassumption

/-- The state before the second exchange's first chunk. -/
theorem MSt_start : iprop(LdFly m c false 0 ∗ LdIdle m c false 1 ∗ Sd m c true 0 ∗ OIdle (F := F) c 0 ∗ OIdle (F := F) c 1
    ∗ bigSep (Finset.Ico 0 16) (A1 (F := F) c) ∗ bigSep (Finset.Ico 0 16) (A2 (F := F) c)) ⊢ MSt m c (0 - 3) := by
  rw [show 0 - 3 = 0 from rfl]
  unfold MSt Ld LdF
  rw [if_pos (by omega), show 0 + 1 = 1 from rfl, show 0 - 2 = 0 from rfl, show pendM 0 = none from rfl, show pendM 1 = none from rfl,
    show OSt m c 0 none = OIdle (F := F) c 0 from rfl, show OSt m c 1 none = OIdle (F := F) c 1 from rfl, Finset.range_zero, bigSep_empty, bigSep_empty]
  iintro ⟨H0, H1, H2, H3, H4, H5, H6⟩
  isplitl [H0 H1]; · isplitl [H0] <;> iassumption
  isplitl [H2]; · iexact H2
  isplitl [H3]; · iexact H3
  isplitl [H4]; · iexact H4
  isplitl [H5]; · iexact H5
  isplitr; · iempintro
  isplitl [H6]; · iexact H6
  iempintro

/-- Everything after the handshake. -/
theorem wp_main {Q : PUnit → sProp 𝕄} :
    iprop(MainPre m c ∗ Env m κ) ⊢ iprop((MainPost m c -∗ |={Set.univ}=> Q ⟨⟩) -∗ WP c (main_ c) Q) := by
  unfold MainPre main_
  iintro ⟨⟨Hg, ⟨Hm0, Hm1⟩, ⟨Ht0, Ht1⟩, HSX, HSY, HO0, HO1, HTX, HA1, HA2, HO⟩, #HE⟩ Hk
  iapply (wp_load 𝒱₀ (c : Thread nD τ) none Set.univ (m := gamM) (Finset.subset_univ _)) $$ Hg; iintro Hg
  iapply (wp_ldStart m c false 0) $$ Hm0
  iintro Hm0
  iapply (wp_ldStart m c true 0) $$ Ht0
  iintro Ht0
  iapply (wp_rounds m κ c 19 0 rfl) $$ [Hm0 Hm1 Ht0 Ht1 HSX HSY HO0 HO1 HTX HA1 HA2 HO]
  · isplitl
    · isplitl [Ht0 Ht1 HSX HTX]
      · iapply (TSt_start m c)
        isplitl [Ht0]; · iexact Ht0
        isplitl [Ht1]; · iexact Ht1
        isplitl [HSX] <;> iassumption
      isplitr [HO]
      · iapply (MSt_start m c)
        isplitl [Hm0]; · iexact Hm0
        isplitl [Hm1]; · iexact Hm1
        isplitl [HSY]; · iexact HSY
        isplitl [HO0]; · iexact HO0
        isplitl [HO1]; · iexact HO1
        isplitl [HA1] <;> iassumption
      · iexact HO
    · iexact HE
  unfold TSt
  iintro ⟨⟨HL, HS, -⟩, HM, HO⟩
  iapply (wp_end m κ c) $$ [HL HS HM HO]
  · isplitl [HL HS]
    · isplitl [HL] <;> iassumption
    isplitl [HM]; · iexact HM
    isplitl [HO]; · iexact HO
    iexact HE
  rw [Ld_last, Ld_last, show OIdle (F := F) c 14 = OIdle (F := F) c 0 from OSt_congr m c (show 14 % 2 = 0 % 2 from rfl) none,
    show OIdle (F := F) c 15 = OIdle (F := F) c 1 from OSt_congr m c (show 15 % 2 = 1 % 2 from rfl) none]
  iintro ⟨HLt, HLm, HX, HY, HI0, HI1, HD, HO⟩
  iapply Hk
  unfold MainPost
  isplitl [Hg]; · iexact Hg
  isplitl [HLm]; · iexact HLm
  isplitl [HLt]; · iexact HLt
  isplitl [HX]; · iexact HX
  isplitl [HY]; · iexact HY
  isplitl [HI0]; · iexact HI0
  isplitl [HI1]; · iexact HI1
  isplitl [HD] <;> iassumption

end Cert.KernelIdeal.Ring

end
-- ==== Proof.Whole.lean ====
/- The whole body of device `c`: what it holds at the launch is dealt to the steps, the handshake hands the receive
   buffers over, and at the end everything is put together again. -/
module

public import proofs.«01_k».proof.Proof.Body

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Products over the chunks -/

section Products
variable {A : Type _} [URA A]

/-- A product over the sixteen chunks' numbers. -/
theorem ico16 (Φ : ℕ → sProp A) : bigSep (Finset.Ico 0 16) Φ = bigSep Finset.univ fun k : Fin 16 => Φ k.val := by
  rw [show Finset.Ico 0 16 = (Finset.univ : Finset (Fin 16)).map Fin.valEmbedding from by decide, bigSep_map]; rfl
/-- The same of a range. -/
theorem range16 (Φ : ℕ → sProp A) : bigSep (Finset.range 16) Φ = bigSep Finset.univ fun k : Fin 16 => Φ k.val := by
  rw [Finset.range_eq_Ico]; exact ico16 Φ
/-- A product over both exchanges' chunks. -/
theorem pairs (Φ : Bool × Fin 16 → sProp A) :
    bigSep Finset.univ Φ = iprop((bigSep Finset.univ fun k => Φ (false, k)) ∗ bigSep Finset.univ fun k => Φ (true, k)) := by
  rw [bigSep_univ_prod, bigSep_univ_eq_bigSepL [false, true] (by decide) (by decide), bigSepL_cons_cons, bigSepL_singleton]; rfl
/-- A product over two. -/
theorem fin2 (Φ : Fin 2 → sProp A) : bigSep Finset.univ Φ = iprop(Φ 0 ∗ Φ 1) := bigSep_univ_eq_bigSepL [0, 1] (by decide) (by decide) Φ
/-- A product over four. -/
theorem fin4 (Φ : Fin 4 → sProp A) : bigSep Finset.univ Φ = iprop(Φ 0 ∗ Φ 1 ∗ Φ 2 ∗ Φ 3) := bigSep_univ_eq_bigSepL [0, 1, 2, 3] (by decide) (by decide) Φ
/-- A product from four on, counted from zero. -/
theorem ico_shift (Φ : ℕ → sProp A) : bigSep (Finset.Ico 4 16) (fun j => Φ (j - 4)) = bigSep (Finset.range 12) Φ := by
  rw [show Finset.Ico 4 16 = (Finset.range 12).map (addRightEmbedding 4) from by decide, bigSep_map]
  exact bigSep_congr fun j _ => congrArg Φ (Nat.add_sub_cancel j 4)

/-- A fact that stays helps in each factor of a product. -/
theorem bigSep_with {I : Type} [DecidableEq I] {S : Finset I} {R : sProp A} [BI.Persistent R] {Φ Ψ : I → sProp A}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
end Products

variable (m : (ℓ : Loc nD τ sig) → Buf (Elt F) ℓ) (κ : Dev nD × KI → ℕ) (c : Dev nD)

/-! ## The local semaphores -/

/-- The semaphores of a device's own copies. -/
def lsem : Fin 14 → DmaSem sig := ![smine 0, smine 1, stheirs 0, stheirs 1, sx 0, sx 1, sx 2, sx 3, sy 0, sy 1, sy 2, sy 3, so 0, so 1]
def lsems : sProp 𝕄 := bigSep Finset.univ fun i : Fin 14 => sv c (lsem i)

omit [FloatOps F] in
/-- The semaphores of a device's own copies, one by one. -/
theorem lsems_eq : lsems (F := F) c = iprop(sv c (smine 0) ∗ sv c (smine 1) ∗ sv c (stheirs 0) ∗ sv c (stheirs 1) ∗ sv c (sx 0) ∗ sv c (sx 1) ∗ sv c (sx 2) ∗ sv c (sx 3)
    ∗ sv c (sy 0) ∗ sv c (sy 1) ∗ sv c (sy 2) ∗ sv c (sy 3) ∗ sv c (so 0) ∗ sv c (so 1)) :=
  bigSep_univ_eq_bigSepL [0, 1, 2, 3, 4, 5, 6, 7, 8, 9, 10, 11, 12, 13] (by decide) (by decide) _

/-! ## From the launch to the steps -/

/-- Positions at the receive cells, their credits, the duties at the neighbours' receive cells. -/
def Pos (r : ℕ) : sProp 𝕄 := bigSep Finset.univ fun i : Bool × Fin 16 => atPos ER (rcell c i.1 i.2.val) r ∅ 0
def Crd : sProp 𝕄 := bigSep Finset.univ fun i : Bool × Fin 16 => cred (tallyAt (rcell c i.1 i.2.val) () N)
def Dut : sProp 𝕄 := bigSep Finset.univ fun i : Bool × Fin 16 => dutyTok ER (rcell (peer i.1 c) i.1 i.2.val) 0 false

/-- The scratch buffers that are not given away, whole. -/
def Scr : sProp 𝕄 := iprop(some_ (F := F) c mineM ∗ some_ (F := F) c theirsM ∗ some_ (F := F) c xsendM ∗ some_ (F := F) c ysendM ∗ some_ (F := F) c outcM)

/-- What every step of the second exchange takes, collected by the chunk. -/
theorem A1_intro : iprop((bigSep Finset.univ fun k : Fin 16 => atPos ER (rcell c false k.val) 0 ∅ 0) ∗ (bigSep Finset.univ fun k : Fin 16 => cred (tallyAt (rcell c false k.val) () N))
      ∗ (bigSep Finset.univ fun k : Fin 16 => dutyTok ER (rcell (peer true c) true k.val) 0 false) ∗ chunks (F := F) (peerY c) yrecvM
      ∗ bigSep Finset.univ fun k : Fin 16 => Todo (F := F) c (false, k.val))
    ⊢ bigSep (Finset.Ico 0 16) (A1 (F := F) c) := by
  rw [ico16]
  unfold A1 Await Tok
  simp only [bigSep_sep']
  iintro ⟨H1, H2, H3, H4, H5⟩
  isplitl [H1 H2]; · isplitl [H1] <;> iassumption
  isplitl [H3 H4]
  · isplitl [H3]; · iexact H3
    iexact H4
  iexact H5

/-- What receiving each chunk of the second exchange takes, collected by the chunk. -/
theorem A2_intro : iprop((bigSep Finset.univ fun k : Fin 16 => atPos ER (rcell c true k.val) 0 ∅ 0) ∗ (bigSep Finset.univ fun k : Fin 16 => cred (tallyAt (rcell c true k.val) () N))
      ∗ bigSep Finset.univ fun k : Fin 16 => Todo (F := F) c (true, k.val))
    ⊢ bigSep (Finset.Ico 0 16) (A2 (F := F) c) := by
  rw [ico16]
  unfold A2 Await
  simp only [bigSep_sep']
  iintro ⟨H1, H2, H3⟩
  isplitl [H1 H2]; · isplitl [H1] <;> iassumption
  iexact H3

/-- What sending each chunk of the first exchange takes, collected by the chunk. -/
theorem Tok_intro : iprop((bigSep Finset.univ fun k : Fin 16 => dutyTok ER (rcell (peer false c) false k.val) 0 false) ∗ chunks (F := F) (peerX c) xrecvM)
    ⊢ bigSep (Finset.Ico 0 16) (Tok (F := F) c false) := by
  rw [ico16]
  unfold Tok
  simp only [bigSep_sep']
  iintro ⟨H1, H2⟩
  isplitl [H1]; · iexact H1
  iexact H2

/-- A send buffer and its semaphores give the four idle slots. -/
theorem Sd_start (b : Bool) : iprop(slots4 (F := F) c (sM b) ∗ sv c (ssm b 0) ∗ sv c (ssm b 1) ∗ sv c (ssm b 2) ∗ sv c (ssm b 3)) ⊢ Sd m c b 0 := by
  unfold slots4 Sd SdSt SdIdle
  rw [fin4, if_neg (by omega), if_neg (by omega), if_neg (by omega), if_neg (by omega)]
  iintro ⟨⟨H0, H1, H2, H3⟩, S0, S1, S2, S3⟩
  isplitl [H0 S0]
  · isplitl [H0]; · iexact H0
    iexact S0
  isplitl [H1 S1]
  · isplitl [H1]; · iexact H1
    iexact S1
  isplitl [H2 S2]
  · isplitl [H2]; · iexact H2
    iexact S2
  isplitl [H3]; · iexact H3
  iexact S3

/-- A load buffer, its semaphores and shares of the argument give the two idle slots. -/
theorem Ld_start (b : Bool) : iprop(slots2 (F := F) c (lM b) ∗ sv c (lsm b 0) ∗ sv c (lsm b 1) ∗ (argL c ↦{lsh b 0} A0 m c) ∗ (argL c ↦{lsh b 1} A0 m c))
    ⊢ iprop(LdIdle m c b 0 ∗ LdIdle m c b 1) := by
  unfold slots2 LdIdle
  rw [fin2]
  iintro ⟨⟨H0, H1⟩, S0, S1, A0, A1⟩
  isplitl [H0 S0 A0]
  · isplitl [H0]; · iexact H0
    isplitl [S0] <;> iassumption
  isplitl [H1]; · iexact H1
  isplitl [S1] <;> iassumption

/-- The output buffer and its semaphores give the two idle slots. -/
theorem O_start : iprop(slots2 (F := F) c outcM ∗ sv c (so 0) ∗ sv c (so 1)) ⊢ iprop(OIdle (F := F) c 0 ∗ OIdle (F := F) c 1) := by
  unfold slots2 OIdle
  rw [fin2]
  iintro ⟨⟨H0, H1⟩, S0, S1⟩
  isplitl [H0 S0]
  · isplitl [H0]; · iexact H0
    iexact S0
  isplitl [H1]; · iexact H1
  iexact S1

/-- What the handshake leaves is what the steps start from. -/
theorem main_pre : iprop(gamPts m c ∗ (argL c ↦{fullShare} A0 m c) ∗ some_ (F := F) c outM ∗ Scr (F := F) c ∗ lsems (F := F) c ∗ Pos (F := F) c 0 ∗ Crd (F := F) c ∗ Dut (F := F) c
      ∗ chunks (F := F) (peerX c) xrecvM ∗ chunks (F := F) (peerY c) yrecvM ∗ Ow c 0 0) ⊢ MainPre m c := by
  unfold MainPre Scr Pos Crd Dut
  rw [lsems_eq, pairs, pairs, pairs]
  iintro ⟨Hg, HA, Hout, ⟨Hmi, Hth, Hxs, Hys, Hoc⟩, ⟨S0, S1, S2, S3, S4, S5, S6, S7, S8, S9, S10, S11, S12, S13⟩, ⟨HP1, HP2⟩, ⟨HC1, HC2⟩, ⟨HD1, HD2⟩, HX, HY, HO⟩
  ihave HA := (split_arg m c) $$ HA
  icases HA with ⟨HA0, HA1, HA2, HA3⟩
  ihave Hout := (split_out c) $$ Hout
  ihave Hout := (Entails.of_eq (pairs _)) $$ Hout
  icases Hout with ⟨HT1, HT2⟩
  isplitl [Hg]; · iexact Hg
  isplitl [Hmi S0 S1 HA0 HA1]
  · iapply (Ld_start m c false)
    isplitl [Hmi]; · iapply (split2 c mineM) $$ Hmi
    isplitl [S0]; · iexact S0
    isplitl [S1]; · iexact S1
    isplitl [HA0] <;> iassumption
  isplitl [Hth S2 S3 HA2 HA3]
  · iapply (Ld_start m c true)
    isplitl [Hth]; · iapply (split2 c theirsM) $$ Hth
    isplitl [S2]; · iexact S2
    isplitl [S3]; · iexact S3
    isplitl [HA2] <;> iassumption
  isplitl [Hxs S4 S5 S6 S7]
  · iapply (Sd_start m c false)
    isplitl [Hxs]; · iapply (split4 c xsendM) $$ Hxs
    isplitl [S4]; · iexact S4
    isplitl [S5]; · iexact S5
    isplitl [S6]; · iexact S6
    iexact S7
  isplitl [Hys S8 S9 S10 S11]
  · iapply (Sd_start m c true)
    isplitl [Hys]; · iapply (split4 c ysendM) $$ Hys
    isplitl [S8]; · iexact S8
    isplitl [S9]; · iexact S9
    isplitl [S10]; · iexact S10
    iexact S11
  ihave HOI := (O_start c) $$ [Hoc S12 S13]
  · isplitl [Hoc]; · iapply (split2 c outcM) $$ Hoc
    isplitl [S12] <;> iassumption
  icases HOI with ⟨HI0, HI1⟩
  isplitl [HI0]; · iexact HI0
  isplitl [HI1]; · iexact HI1
  isplitl [HD1 HX]
  · iapply (Tok_intro c)
    isplitl [HD1]; · iexact HD1
    iexact HX
  isplitl [HP1 HC1 HD2 HY HT1]
  · iapply (A1_intro c)
    isplitl [HP1]; · iexact HP1
    isplitl [HC1]; · iexact HC1
    isplitl [HD2]; · iexact HD2
    isplitl [HY]; · iexact HY
    iexact HT1
  isplitr [HO]
  · iapply (A2_intro c)
    isplitl [HP2]; · iexact HP2
    isplitl [HC2]; · iexact HC2
    iexact HT2
  · iexact HO

/-! ## From the steps to the end -/

/-- The converse of `Ld_start`. -/
theorem Ld_stop (b : Bool) : iprop(LdIdle m c b 0 ∗ LdIdle m c b 1)
    ⊢ iprop(slots2 (F := F) c (lM b) ∗ sv c (lsm b 0) ∗ sv c (lsm b 1) ∗ (argL c ↦{lsh b 0} A0 m c) ∗ (argL c ↦{lsh b 1} A0 m c)) := by
  unfold slots2 LdIdle
  rw [fin2]
  iintro ⟨⟨H0, S0, A0⟩, H1, S1, A1⟩
  isplitl [H0 H1]
  · isplitl [H0]; · iexact H0
    iexact H1
  isplitl [S0]; · iexact S0
  isplitl [S1]; · iexact S1
  isplitl [A0] <;> iassumption

/-- The converse of `Sd_start`. -/
theorem Sd_stop (b : Bool) : SdRest (F := F) c b ⊢ iprop(slots4 (F := F) c (sM b) ∗ sv c (ssm b 0) ∗ sv c (ssm b 1) ∗ sv c (ssm b 2) ∗ sv c (ssm b 3)) := by
  unfold SdRest
  rw [SdIdle_congr (F := F) c b (show 12 % 4 = 0 % 4 from rfl), SdIdle_congr (F := F) c b (show 13 % 4 = 1 % 4 from rfl),
    SdIdle_congr (F := F) c b (show 14 % 4 = 2 % 4 from rfl), SdIdle_congr (F := F) c b (show 15 % 4 = 3 % 4 from rfl)]
  unfold slots4 SdIdle
  rw [fin4]
  iintro ⟨⟨H0, S0⟩, ⟨H1, S1⟩, ⟨H2, S2⟩, H3, S3⟩
  isplitl [H0 H1 H2 H3]
  · isplitl [H0]; · iexact H0
    isplitl [H1]; · iexact H1
    isplitl [H2]; · iexact H2
    iexact H3
  isplitl [S0]; · iexact S0
  isplitl [S1]; · iexact S1
  isplitl [S2] <;> iassumption

/-- The converse of `O_start`. -/
theorem O_stop : iprop(OIdle (F := F) c 0 ∗ OIdle (F := F) c 1) ⊢ iprop(slots2 (F := F) c outcM ∗ sv c (so 0) ∗ sv c (so 1)) := by
  unfold slots2 OIdle
  rw [fin2]
  iintro ⟨⟨H0, S0⟩, H1, S1⟩
  isplitl [H0 H1]
  · isplitl [H0]; · iexact H0
    iexact H1
  isplitl [S0] <;> iassumption

/-- The chunks that arrived: the receive buffer is whole again, the positions have moved on. -/
theorem got_stop (b : Bool) : bigSep (Finset.range 16) (Got m c b) ⊢ iprop((bigSep Finset.univ fun k : Fin 16 => atPos ER (rcell c b k.val) 1 ∅ 0) ∗ chunks (F := F) c (rM b)) := by
  rw [range16]
  unfold Got
  rw [bigSep_sep']
  refine sep_mono_right (bigSep_mono fun k _ => ?_)
  show own_ c (chunk (rM b) k.val) (sval m (peer b c) b k.val) ⊢ iprop(∃ X, own_ (F := F) c (chunk (rM b) k.val) X)
  iintro H; iexists _; iexact H

/-- All rows of the result are written. -/
theorem done_all : iprop((bigSep (Finset.range 16) fun j => DoneO m c (pendM j)) ∗ (bigSep (Finset.range 16) fun j => if 2 ≤ j then Done m c (false, j) else iprop(emp))
      ∗ Done m c (true, 12) ∗ Done m c (true, 13) ∗ Done m c (true, 14) ∗ Done m c (true, 15))
    ⊢ bigSep Finset.univ fun p : Bool × Fin 16 => Done m c (p.1, p.2.val) := by
  have h1 : (bigSep (Finset.range 16) fun j => DoneO m c (pendM j)) = iprop(emp ∗ emp ∗ Done m c (false, 0) ∗ Done m c (false, 1) ∗ bigSep (Finset.range 12) fun j => Done m c (true, j)) := by
    rw [Finset.range_eq_Ico, bigSep_Ico_succ_bot (by omega), bigSep_Ico_succ_bot (by omega), bigSep_Ico_succ_bot (by omega), bigSep_Ico_succ_bot (by omega),
      bigSep_congr (s := Finset.Ico (0 + 1 + 1 + 1 + 1) 16) (Ψ := fun j => Done m c (true, j - 4)) fun j hj => by
        have h4 : 4 ≤ j := (Finset.mem_Ico.mp hj).1
        rw [show pendM j = some (true, j - 4) by simp only [pendM, show 2 ≤ j by omega, h4, decide_true]]
        rfl,
      show Finset.Ico (0 + 1 + 1 + 1 + 1) 16 = Finset.Ico 4 16 from rfl, ico_shift fun j => Done m c (true, j)]
    rfl
  have h2 : (bigSep (Finset.range 16) fun j => if 2 ≤ j then Done m c (false, j) else iprop(emp)) = iprop(emp ∗ emp ∗ bigSep (Finset.Ico 2 16) fun j => Done m c (false, j)) := by
    rw [Finset.range_eq_Ico, bigSep_Ico_succ_bot (by omega), bigSep_Ico_succ_bot (by omega),
      bigSep_congr (s := Finset.Ico (0 + 1 + 1) 16) (Ψ := fun j => Done m c (false, j)) fun j hj => if_pos (Finset.mem_Ico.mp hj).1]
    rfl
  rw [h1, h2, pairs]
  rw [← ico16 fun j => Done m c (false, j), ← range16 fun j => Done m c (true, j), bigSep_Ico_succ_bot (show 0 < 16 by omega) fun j => Done m c (false, j),
    bigSep_Ico_succ_bot (show 0 + 1 < 16 by omega) fun j => Done m c (false, j), bigSep_range_succ 15, bigSep_range_succ 14, bigSep_range_succ 13, bigSep_range_succ 12]
  iintro ⟨⟨-, -, H0, H1, HT⟩, ⟨-, -, HF⟩, H12, H13, H14, H15⟩
  isplitl [H0 H1 HF]
  · isplitl [H0]; · iexact H0
    isplitl [H1]; · iexact H1
    iexact HF
  isplitl [H15]; · iexact H15
  isplitl [H14]; · iexact H14
  isplitl [H13]; · iexact H13
  isplitl [H12]; · iexact H12
  iexact HT

/-- The scratch buffers, whole. -/
def ScrAll : sProp 𝕄 :=
  iprop(some_ (F := F) c mineM ∗ some_ (F := F) c theirsM ∗ some_ (F := F) c xsendM ∗ some_ (F := F) c xrecvM ∗ some_ (F := F) c ysendM ∗ some_ (F := F) c yrecvM ∗ some_ (F := F) c outcM)

/-- The result buffer, holding what is computed. -/
def OutRes : sProp 𝕄 := iprop(∃ f : Buf (Elt F) (outM.view.loc (c : Thread nD τ)), ⌜∀ p : Bool × Fin 16, ReadsRes m c f (p.1, p.2.val)⌝ ∗ (outM.view.loc (c : Thread nD τ) ↦[outM.view.set]{fullShare} f))

/-- Everything done gives the result, the positions moved on, and both receive buffers. -/
theorem out_stop : OutDone m c ⊢ iprop(OutRes m c ∗ Pos (F := F) c 1 ∗ some_ (F := F) c xrecvM ∗ some_ (F := F) c yrecvM) := by
  unfold OutDone B1 Pos OutRes
  rw [pairs, bigSep_sep', bigSep_sep']
  iintro ⟨⟨HG0, HD0, HD1⟩, HG1, H12, H13, H14, H15⟩
  ihave HG0 := (got_stop m c false) $$ HG0
  icases HG0 with ⟨HP0, HX⟩
  ihave HG1 := (got_stop m c true) $$ HG1
  icases HG1 with ⟨HP1, HY⟩
  isplitl [HD0 HD1 H12 H13 H14 H15]
  · iapply (join_out m c (m _))
    iapply (done_all m c)
    isplitl [HD0]; · iexact HD0
    isplitl [HD1]; · iexact HD1
    isplitl [H12]; · iexact H12
    isplitl [H13]; · iexact H13
    isplitl [H14] <;> iassumption
  isplitl [HP0 HP1]
  · isplitl [HP0]; · iexact HP0
    iexact HP1
  isplitl [HX]
  · iapply (show chunks (F := F) c (rM false) ⊢ some_ (F := F) c xrecvM from join16 c xrecvM (m _)) $$ HX
  · iapply (show chunks (F := F) c (rM true) ⊢ some_ (F := F) c yrecvM from join16 c yrecvM (m _)) $$ HY

/-- What the steps leave, as whole buffers and semaphores. -/
theorem main_post : MainPost m c
    ⊢ iprop(gamPts m c ∗ (argL c ↦{fullShare} A0 m c) ∗ OutRes m c ∗ ScrAll (F := F) c ∗ lsems (F := F) c ∗ Pos (F := F) c 1 ∗ Ow c 16 16) := by
  unfold MainPost ScrAll
  rw [lsems_eq]
  iintro ⟨Hg, HLm, HLt, HX, HY, HI0, HI1, HD, HO⟩
  ihave HD := (out_stop m c) $$ HD
  icases HD with ⟨HR, HP, Hxr, Hyr⟩
  ihave HLm := (Ld_stop m c false) $$ HLm
  icases HLm with ⟨Hmi, S0, S1, HA0, HA1⟩
  ihave HLt := (Ld_stop m c true) $$ HLt
  icases HLt with ⟨Hth, S2, S3, HA2, HA3⟩
  ihave HX := (Sd_stop c false) $$ HX
  icases HX with ⟨Hxs, S4, S5, S6, S7⟩
  ihave HY := (Sd_stop c true) $$ HY
  icases HY with ⟨Hys, S8, S9, S10, S11⟩
  ihave HI := (O_stop c) $$ [HI0 HI1]
  · isplitl [HI0] <;> iassumption
  icases HI with ⟨Hoc, S12, S13⟩
  isplitl [Hg]; · iexact Hg
  isplitl [HA0 HA1 HA2 HA3]
  · iapply (join_arg m c)
    isplitl [HA0]; · iexact HA0
    isplitl [HA1]; · iexact HA1
    isplitl [HA2] <;> iassumption
  isplitl [HR]; · iexact HR
  isplitl [Hmi Hth Hxs Hxr Hys Hyr Hoc]
  · isplitl [Hmi]; · iapply (show slots2 (F := F) c (lM false) ⊢ some_ (F := F) c mineM from join2 c mineM (m _)) $$ Hmi
    isplitl [Hth]; · iapply (show slots2 (F := F) c (lM true) ⊢ some_ (F := F) c theirsM from join2 c theirsM (m _)) $$ Hth
    isplitl [Hxs]; · iapply (show slots4 (F := F) c (sM false) ⊢ some_ (F := F) c xsendM from join4 c xsendM (m _)) $$ Hxs
    isplitl [Hxr]; · iexact Hxr
    isplitl [Hys]; · iapply (show slots4 (F := F) c (sM true) ⊢ some_ (F := F) c ysendM from join4 c ysendM (m _)) $$ Hys
    isplitl [Hyr]; · iexact Hyr
    iapply (join2 c outcM (m _)) $$ Hoc
  isplitr [HP HO]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12] <;> iassumption
  isplitl [HP] <;> iassumption

/-- The receive cells, used once, close: their counters are at zero. -/
def rsems : sProp 𝕄 := bigSep Finset.univ fun i : Bool × Fin 16 => semVal (kcell (c, some i)) 0

/-- Every receive cell, used once, gives its counter back at zero. -/
theorem close_rcv : iprop(Env m κ ∗ Pos (F := F) c 1) ⊢ |={Set.univ}=> rsems (F := F) c := by
  unfold Pos rsems
  refine (bigSep_with (R := Env m κ) (Ψ := fun i : Bool × Fin 16 => iprop(|={Set.univ}=> semVal (kcell (c, some i)) 0)) fun i _ => ?_).trans (bigSep_fupd _ _)
  obtain ⟨b, k⟩ := i
  dsimp only
  rw [rcell_eq c b k.isLt]
  iintro ⟨#HE, Hat⟩
  imod (Rounds.cell_close ER (ringRd m) (Set.mem_univ (κ (c, some (b, k)))) (fun h => h) (R := 0 + 1) (duties_later m (kcell (c, some (b, k))))) $$ [Hat] with Hz
  · isplitr; · iapply (Env_inv m κ (c, some (b, k))); iexact HE
    iexact Hat
  imodintro
  iexact Hz

/-! ## The proof data -/

/-- What stays device `c`'s of the shared bookkeeping: its positions, the duties it pays, and its own semaphores. -/
def ghost : sProp 𝕄 :=
  iprop(Env m κ ∗ atPos ER (barCell c) 0 ∅ 0 ∗ Pos (F := F) c 0 ∗ dutyTok ER (barCell (peerX c)) 0 false ∗ dutyTok ER (barCell (peerY c)) 0 true ∗ Dut (F := F) c ∗ lsems (F := F) c)

/-- What the body starts from. -/
def start : sProp 𝕄 :=
  iprop((∃ K, ghost m K c) ∗ cred (tallyAt (barCell c) () 2) ∗ Crd (F := F) c ∗ (argL c ↦{fullShare} A0 m c) ∗ some_ (F := F) c outM)
def Φ₀ : sProp 𝕄 := iprop(start m c ∗ ScrAll (F := F) c)
/-- What it leaves. -/
def Φ₁ : sProp 𝕄 := iprop((argL c ↦{fullShare} A0 m c) ∗ OutRes m c ∗ ScrAll (F := F) c ∗ lsems (F := F) c ∗ rsems (F := F) c ∗ semVal (barCell c) 0)

def dats (ρ : Dev nD → PrngReg) (_ : Fin 1) (c : Dev nD) : Dat τ (Elt F) Unit ℕ UU ℕ cfg0 c where
  A w := (s₀ m ρ).mem ((cfg0.win w).arr.view.loc (c : Thread nD τ))
  after w _ := match w with
    | ⟨0, _⟩ => gamF m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- A whole buffer held with contents `X`. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

variable (ρ : Dev nD → PrngReg)

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc ∗ (∃ d, stg c cc0_stg0_0 ((dats m ρ 0 c).before (0 : Fin 1) t0_0 d)))
def bodyPost : sProp 𝕄 :=
  iprop(Φ₁ m c ∗ (dats m ρ 0 c).owesAt () t0_0.succ ∗ stg c cc0_stg0_0 (gamF m c))

/-- The handshake: device `c` gives its receive buffers to its neighbours, and gets theirs. -/
theorem wp_handshake (W : Waits sig Unit) {K : P F} {Q : PUnit → sProp 𝕄} :
    iprop(Env m κ ∗ atPos ER (barCell c) 0 ∅ 0 ∗ dutyTok ER (barCell (peerX c)) 0 false ∗ dutyTok ER (barCell (peerY c)) 0 true ∗ cred (tallyAt (barCell c) () 2)
        ∗ chunks (F := F) c xrecvM ∗ chunks (F := F) c yrecvM ∗ owes (c : Thread nD τ) (O₀ c) W)
      ⊢ iprop((iprop(atPos ER (barCell c) 1 ∅ 0 ∗ chunks (F := F) (peerX c) xrecvM ∗ chunks (F := F) (peerY c) yrecvM ∗ Ow c 0 0) -∗ WP c K Q)
        -∗ WP c (.op (.semSignal (Dev.tc (⟨k0_dev1 c, k0_dev1_lt c⟩ : Dev nD)) barS (1#32).toInt) fun _ =>
            .op (.semSignal (Dev.tc (⟨k0_dev2 c, k0_dev2_lt c⟩ : Dev nD)) barS (1#32).toInt) fun _ => .op (.semWait barS (2#32).toInt) fun _ => K) Q) := by
  rw [dev1_eq, dev2_eq]
  iintro ⟨#HE, Hat, HtX, HtY, Hc, HX, HY, HO⟩ Hk
  iapply (Rounds.wp_signal 𝒱₀ ER (ringRd m) (c : Thread nD τ) none (dst := (peerX c : Thread nD τ)) (κ := κ (peerX c, none))
      (d := false) (by rw [duties_bar]; exact Finset.mem_univ _) ((amount_bar m (peerX c) false).trans (by decide)) () (O₁ c) rfl)
    $$ [HO HtX HX]
  · isplitr; · iapply (Env_inv m κ (peerX c, none)); iexact HE
    isplitl [HO]; · iexact HO
    isplitl [HtX]; · iexact HtX
    isplitl [HX]
    · rw [payload_bar]; unfold barPay; rw [if_neg (by decide), peerX_peerX]; iexact HX
    iapply (Env_reached m κ (peerX c, none)); iexact HE
  iintro HO
  iapply (Rounds.wp_signal 𝒱₀ ER (ringRd m) (c : Thread nD τ) none (dst := (peerY c : Thread nD τ)) (κ := κ (peerY c, none))
      (d := true) (by rw [duties_bar]; exact Finset.mem_univ _) ((amount_bar m (peerY c) true).trans (by decide)) () (Orem c 0 0) rfl)
    $$ [HO HtY HY]
  · isplitr; · iapply (Env_inv m κ (peerY c, none)); iexact HE
    isplitl [HO]; · iexact HO
    isplitl [HtY]; · iexact HtY
    isplitl [HY]
    · rw [payload_bar]; unfold barPay; rw [if_pos rfl, peerY_peerY]; iexact HY
    iapply (Env_reached m κ (peerY c, none)); iexact HE
  iintro HO
  iapply (Rounds.wp_wait_rest_token 𝒱₀ ER (ringRd m) (c : Thread nD τ) none (κ := κ (c, none))
      (wpE_semWait_eq 𝒱₀ (c : Thread nD τ) none Set.univ) (Set.mem_univ _) () (O := Orem c 0 0) (W := W) (R := 0) (m := 0) (T := ∅)
      (by rw [expect_bar]; decide)) $$ [Hc HO Hat]
  · isplitr; · iapply (Env_inv m κ (c, none)); iexact HE
    isplitl [Hc]; · iexact Hc
    isplitl [HO]; · iexact HO
    isplitr; · iapply (mayWait_bar c); iapply (Env_lev m κ); iexact HE
    iexact Hat
  iintro ⟨HO, Hat, -, Hpay⟩
  ihave Hp := (Entails.of_eq ((rest_bar m c).trans (show iprop(barPay (F := F) c false ∗ barPay (F := F) c true) = iprop(chunks (F := F) (peerX c) xrecvM ∗ chunks (F := F) (peerY c) yrecvM) from by
    unfold barPay; rw [if_neg (by decide), if_pos rfl]))) $$ Hpay
  icases Hp with ⟨HX, HY⟩
  iapply Hk
  isplitl [Hat]; · iexact Hat
  isplitl [HX]; · iexact HX
  isplitl [HY]; · iexact HY
  iexists _; iexact HO

/-- The body from the launch to the end. -/
theorem sound_body (Kt : PUnit → sProp 𝕄) : iprop(bodyPre m c ρ ∗ (bodyPost m c ρ -∗ Kt ⟨⟩)) ⊢ WP c (prog : P F) Kt := by
  unfold bodyPre Φ₀ start ghost ScrAll prog
  rw [WP, wp_deviceId]
  iintro ⟨⟨⟨⟨⟨%K, #HE, HatB, HP, HtX, HtY, HD, HS⟩, HcB, HC, HA, Hout⟩, Hmi, Hth, Hxs, Hxr, Hys, Hyr, Hoc⟩, Ho, ⟨%d0, %g0, %hg0, Hg⟩⟩, Hk⟩
  have hx : g0 = gamF m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  ihave Hxr := (split16 c xrecvM) $$ Hxr
  ihave Hyr := (split16 c yrecvM) $$ Hyr
  iapply (wp_handshake m K c W) $$ [HatB HtX HtY HcB Hxr Hyr HO]
  · isplitr; · iexact HE
    isplitl [HatB]; · iexact HatB
    isplitl [HtX]; · iexact HtX
    isplitl [HtY]; · iexact HtY
    isplitl [HcB]; · iexact HcB
    isplitl [Hxr]; · iexact Hxr
    isplitl [Hyr] <;> iassumption
  iintro ⟨HatB, HX, HY, HO⟩
  iapply (wp_main m K c) $$ [Hg HA Hout Hmi Hth Hxs Hys Hoc HS HP HC HD HX HY HO]
  · isplitl
    · iapply (main_pre m c)
      isplitl [Hg]; · iexact Hg
      isplitl [HA]; · iexact HA
      isplitl [Hout]; · iexact Hout
      isplitl [Hmi Hth Hxs Hys Hoc]
      · unfold Scr
        isplitl [Hmi]; · iexact Hmi
        isplitl [Hth]; · iexact Hth
        isplitl [Hxs]; · iexact Hxs
        isplitl [Hys] <;> iassumption
      isplitl [HS]; · iexact HS
      isplitl [HP]; · iexact HP
      isplitl [HC]; · iexact HC
      isplitl [HD]; · iexact HD
      isplitl [HX]; · iexact HX
      isplitl [HY] <;> iassumption
    · iexact HE
  iintro Hpost
  ihave Hpost := (main_post m c) $$ Hpost
  icases Hpost with ⟨Hg, HA, HR, HScr, HS, HP, ⟨%W', HO⟩⟩
  imod (close_rcv m K c) $$ [HP] with HRz
  · isplitr; · iexact HE
    iexact HP
  imod (Rounds.cell_close ER (ringRd m) (Set.mem_univ (K (c, none))) (fun h => h) (R := 0 + 1) (duties_later m (barCell c))) $$ [HatB] with HBz
  · isplitr; · iapply (Env_inv m K (c, none)); iexact HE
    iexact HatB
  imodintro
  iapply Hk
  unfold bodyPost Φ₁ ScrAll Dat.owesAt Pipeline.owesWithin
  rw [show (dats m ρ 0 c).owed t0_0.succ = 0 from rfl]
  isplitl [HA HR HScr HS HRz HBz]
  · isplitl [HA]; · iexact HA
    isplitl [HR]; · iexact HR
    isplitl [HScr]; · iexact HScr
    isplitl [HS]; · iexact HS
    isplitl [HRz] <;> iassumption
  isplitl [HO]
  · iexists W'
    isplitr; · ipureintro; exact fun _ _ => Or.inl trivial
    iapply (Entails.of_eq (congrArg (fun O => owes (c : Thread nD τ) O W') (Orem_end c))) $$ HO
  iexists _; isplitr; · (ipureintro; rfl)
  iexact Hg

set_option maxRecDepth 100000 in
/-- The same, of the printed body, as the pipeline calls it. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m c ρ ⊢ WP c (bodyAt0 (F := F) t0_0) (fun _ => bodyPost m c ρ)
  rw [body_eq]
  iintro H
  iapply (sound_body m c ρ fun _ => bodyPost m c ρ)
  isplitl [H]; · iexact H
  iintro H; iexact H

end Cert.KernelIdeal.Ring

end
-- ==== Proof.Run.lean ====
/- The launch: the shared bookkeeping is dealt to the devices, and the run of the four devices' programs, with what the
   arrays hold at its end. -/
module

public import proofs.«01_k».proof.Proof.Whole
public import Idealize.ShloMosaic.Lib.Pipeline.CollectiveSegs

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Products
variable {A : Type _} [URA A]

/-- A product over the protocol's indices: the barrier's and the receive semaphores'. -/
theorem opt (Φ : KI → sProp A) : bigSep Finset.univ Φ = iprop(Φ none ∗ bigSep Finset.univ fun i => Φ (some i)) := by
  rw [show (Finset.univ : Finset KI) = {none} ∪ Finset.univ.map Function.Embedding.some from by decide,
    bigSep_union (by decide), bigSep_singleton, bigSep_map]
  rfl
/-- A product over the two truth values. -/
theorem bool2 (Φ : Bool → sProp A) : bigSep Finset.univ Φ = iprop(Φ false ∗ Φ true) := bigSep_univ_eq_bigSepL [false, true] (by decide) (by decide) Φ
end Products

variable (m : (ℓ : Loc nD τ sig) → Buf (Elt F) ℓ) (ρ : Dev nD → PrngReg)

/-! ## The semaphores of a device -/

/-- The receive semaphores and the local ones. -/
abbrev OK : Type := (Bool × Fin 16) ⊕ Fin 14
def osem : OK → SemLoc sig
  | .inl i => csem (some i)
  | .inr i => .dma (lsem i)

/-- The receive semaphores and the local ones are the kernel's own semaphores. -/
theorem ownSemFacts : Pipeline.OwnSemFacts cfg0.spec osem := by decide +kernel

/-- The weights are held whole. -/
theorem share_eq (c : Dev nD) (w : Fin cfg0.W) : (dats m ρ 0 c).share w = fullShare := by unfold Dat.share; split <;> rfl

abbrev ownS (c : Dev nD) : sProp 𝕄 := Pipeline.ownSems0 (Ix := Unit) (Name := ℕ) (U := UU) (Lvl := ℕ) (Val := Elt F) (τ := τ) osem c

omit [FloatOps F] in
/-- The kernel's own semaphores at zero: the receive ones and the local ones. -/
theorem ownSems0_eq (c : Dev nD) : ownS (F := F) c = iprop(rsems (F := F) c ∗ lsems (F := F) c) := by
  unfold ownS Pipeline.ownSems0
  rw [bigSep_univ_sum]
  rfl
omit [FloatOps F] in
/-- The one semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Dealing the bookkeeping -/

/-- Different devices and indices name different cells. -/
theorem kcell_inj : Function.Injective (kcell : Dev nD × KI → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

/-- The duties at device `cj.1`'s cells: its barrier's two, one at each receive cell. -/
abbrev tokOf (cj : Dev nD × (Bool ⊕ (Bool × Fin 16))) : GSem nD τ sig × ℕ × Bool := match cj.2 with
  | .inl d => (kcell (cj.1, none), 0, d)
  | .inr i => (kcell (cj.1, some i), 0, false)
/-- Different duties are at different cells or of different names. -/
theorem tokOf_inj : Function.Injective tokOf := by
  rintro ⟨c, d | i⟩ ⟨c', d' | i'⟩ h
  · have h1 := Prod.ext_iff.mp (kcell_inj (congrArg Prod.fst h))
    have h2 : d = d' := congrArg (fun x : GSem nD τ sig × ℕ × Bool => x.2.2) h
    rw [show c = c' from h1.1, h2]
  · have h1 := Prod.ext_iff.mp (kcell_inj (congrArg Prod.fst h))
    exact absurd h1.2 (by simp)
  · have h1 := Prod.ext_iff.mp (kcell_inj (congrArg Prod.fst h))
    exact absurd h1.2 (by simp)
  · have h1 := Prod.ext_iff.mp (kcell_inj (congrArg Prod.fst h))
    rw [show c = c' from h1.1, Option.some.inj h1.2]
def ringToks : Finset (GSem nD τ sig × ℕ × Bool) := Finset.univ.map ⟨tokOf, tokOf_inj⟩

def u₀ : UU := (initOf (Pipeline.cells cfgs cellOf_inj) (Pipeline.launchToks cfgs cellOf_inj), (initOf ringCells ringToks, 1))

/-- The duties at device `c`'s own cells, and those it pays. -/
def toks (c : Dev nD) : sProp 𝕄 :=
  iprop((dutyTok ER (barCell c) 0 false ∗ dutyTok ER (barCell c) 0 true) ∗ bigSep Finset.univ fun i : Bool × Fin 16 => dutyTok ER (kcell (c, some i)) 0 false)
def payToks (c : Dev nD) : sProp 𝕄 :=
  iprop((dutyTok ER (barCell (peerX c)) 0 false ∗ dutyTok ER (barCell (peerY c)) 0 true) ∗ Dut (F := F) c)

def G (c : Dev nD) : sProp 𝕄 :=
  iprop((bigSep Finset.univ fun k : KI => roundState ER (ringRd m) (kcell (c, k)) 0)
    ∗ ((bigSep Finset.univ fun k : KI => atPos ER (kcell (c, k)) 0 ∅ 0) ∗ bigSep Finset.univ fun k : KI => reached ER (kcell (c, k)) 0) ∗ toks (F := F) c)

/-- The facts that stay, but for the levels. -/
def records (K : Dev nD × KI → ℕ) : sProp 𝕄 :=
  iprop((bigSep Finset.univ fun ck => cellInv ER (ringRd m) (K ck) (kcell ck)) ∗ bigSep Finset.univ fun ck => reached ER (kcell ck) 0)
instance records_persistent (K : Dev nD × KI → ℕ) : BI.Persistent (records m K) := by unfold records; infer_instance

def linear (c : Dev nD) : sProp 𝕄 := iprop((bigSep Finset.univ fun k : KI => atPos ER (kcell (c, k)) 0 ∅ 0) ∗ payToks (F := F) c ∗ lsems (F := F) c)
def G' (c : Dev nD) : sProp 𝕄 := iprop(∃ K, records m K ∗ linear (F := F) c)

/-- The protocol's launch state gives each device's part. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_univ_sum, bool2]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- On one device, every cell's invariant is set up. -/
theorem core_alloc (c : Dev nD) :
    iprop(ownS (F := F) c ∗ unscopedSems0 c ∗ G m c)
      ⊢ |={Set.univ}=> iprop((bigSep Finset.univ fun k => iprop(∃ κ : ℕ, cellInv ER (ringRd m) κ (kcell (c, k))))
          ∗ ((bigSep Finset.univ fun k : KI => atPos ER (kcell (c, k)) 0 ∅ 0) ∗ bigSep Finset.univ fun k : KI => reached ER (kcell (c, k)) 0) ∗ toks (F := F) c ∗ lsems (F := F) c) := by
  unfold G
  rw [ownSems0_eq, unscopedSems0_eq]
  iintro ⟨⟨Hrs, Hls⟩, Hb, Hst, Hat, Htok⟩
  imod (show iprop((semVal (barCell c) 0 ∗ rsems (F := F) c) ∗ bigSep Finset.univ fun k : KI => roundState ER (ringRd m) (kcell (c, k)) 0)
      ⊢ (|={Set.univ}=> bigSep Finset.univ fun k => iprop(∃ κ : ℕ, cellInv ER (ringRd m) κ (kcell (c, k))) : sProp 𝕄) from by
        rw [show iprop(semVal (barCell c) 0 ∗ rsems (F := F) c) = bigSep Finset.univ (fun k : KI => (semVal (kcell (c, k)) 0 : sProp 𝕄)) from (opt fun k : KI => (semVal (kcell (c, k)) 0 : sProp 𝕄)).symm, ← bigSep_sep']
        exact (bigSep_mono fun k _ => (Rounds.body_intro ER (ringRd m) (kcell (c, k))).trans inv_alloc).trans (bigSep_fupd _ _)) $$ [Hrs Hb Hst] with Hinv
  · isplitr [Hst]
    · isplitl [Hb] <;> iassumption
    · iexact Hst
  imodintro
  isplitl [Hinv]; · iexact Hinv
  isplitl [Hat]; · iexact Hat
  isplitl [Htok] <;> iassumption

/-- The duties at a device's cells go to the neighbours that pay them. -/
theorem toks_around : (bigSep Finset.univ fun c : Dev nD => (toks (F := F) c : sProp 𝕄)) ⊢ bigSep Finset.univ fun c : Dev nD => payToks (F := F) c := by
  have hb : ∀ (b : Bool), (bigSep Finset.univ fun c : Dev nD => bigSep Finset.univ fun k : Fin 16 => (dutyTok ER (kcell (c, some (b, k))) 0 false : sProp 𝕄))
      = bigSep Finset.univ fun c : Dev nD => bigSep Finset.univ fun k : Fin 16 => (dutyTok ER (rcell (peer b c) b k.val) 0 false : sProp 𝕄) := by
    intro b
    cases b
    · exact bigSep_univ_equiv ringX _
    · exact bigSep_univ_equiv ringY _
  unfold toks payToks Dut
  simp only [pairs, bigSep_sep']
  rw [hb false, hb true, bigSep_univ_equiv ringX (fun c : Dev nD => (dutyTok ER (barCell c) 0 false : sProp 𝕄)),
    bigSep_univ_equiv ringY (fun c : Dev nD => (dutyTok ER (barCell c) 0 true : sProp 𝕄))]
  exact Entails.of_eq rfl

/-- The devices' parts are dealt: each gets the shared facts, its positions, the duties it pays. -/
theorem regroup :
    (bigSep Finset.univ fun c : Dev nD => iprop((bigSep Finset.univ fun k => iprop(∃ κ : ℕ, cellInv ER (ringRd m) κ (kcell (c, k))))
          ∗ ((bigSep Finset.univ fun k : KI => atPos ER (kcell (c, k)) 0 ∅ 0) ∗ bigSep Finset.univ fun k : KI => reached ER (kcell (c, k)) 0) ∗ toks (F := F) c ∗ lsems (F := F) c) : sProp 𝕄)
      ⊢ bigSep Finset.univ (G' m) := by
  rw [bigSep_sep', bigSep_sep', bigSep_sep', bigSep_sep', ← bigSep_univ_prod (fun ck : Dev nD × KI => iprop(∃ κ : ℕ, cellInv ER (ringRd m) κ (kcell ck))),
    ← bigSep_univ_prod (fun ck : Dev nD × KI => (reached ER (kcell ck) 0 : sProp 𝕄))]
  iintro ⟨HI, ⟨Hat, #HR⟩, Htok, Hls⟩
  ihave HK := (BI.bigSep_exists_pi Finset.univ (fun (ck : Dev nD × KI) (κ : ℕ) => (cellInv ER (ringRd m) κ (kcell ck) : sProp 𝕄))) $$ HI
  icases HK with ⟨%K, #HI⟩
  ihave Htk := (toks_around (F := F)) $$ Htok
  iapply (bigSep_with (R := records m K) (Φ := linear (F := F)) fun c _ => show iprop(records m K ∗ linear (F := F) c) ⊢ G' m c from by
    unfold G'; iintro H; iexists K; iexact H)
  isplitr
  · unfold records; isplitl; · iexact HI
    iexact HR
  · unfold linear
    rw [bigSep_sep', bigSep_sep']
    isplitl [Hat]; · iexact Hat
    isplitl [Htk] <;> iassumption

/-- The whole set-up, on all devices. -/
theorem glob : (bigSep Finset.univ fun c => iprop(ownS (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credit at the launch -/

omit [FloatOps F] in
/-- A tally at one cell of the protocol, read at another. -/
theorem tally_kcell (a ci : Dev nD × KI) (n : ℕ) : (tallyAt (kcell a) () n : CellTallies nD τ sig Unit) (kcell ci) () = n * (if ci = a then 1 else 0) := by
  rw [tallyAt_apply]
  by_cases h : ci = a
  · rw [if_pos h, if_pos ⟨congrArg kcell h, rfl⟩, Nat.mul_one]
  · rw [if_neg h, if_neg fun h' => h (kcell_inj h'.1), Nat.mul_zero]

/-- How many chunks, and how many barrier units, are owed to a cell. -/
def cntN (ci : Dev nD × KI) : ℕ := ∑ d : Dev nD, ((∑ k : Fin 16, if ci = (peerX d, some (false, k)) then 1 else 0) + ∑ k : Fin 16, if ci = (peerY d, some (true, k)) then 1 else 0)
def cntB (ci : Dev nD × KI) : ℕ := ∑ d : Dev nD, ((if ci = (peerY d, none) then 1 else 0) + if ci = (peerX d, none) then 1 else 0)
/-- Each receive cell is owed one chunk, each barrier cell two units. -/
theorem cnt_eq : ∀ ci : Dev nD × KI, cntN ci = (if ci.2 = none then 0 else 1) ∧ cntB ci = if ci.2 = none then 2 else 0 := by decide +kernel

/-- A sum over the sixteen chunks' numbers. -/
theorem sum16 (f : ℕ → CellTallies nD τ sig Unit) : ∑ k ∈ Finset.Ico 0 16, f k = ∑ k : Fin 16, f k.val := by
  rw [show Finset.Ico 0 16 = (Finset.univ : Finset (Fin 16)).map Fin.valEmbedding from by decide, Finset.sum_map]; rfl

/-- What a device owes at launch, cell by cell. -/
theorem owed_at (d : Dev nD) (ci : Dev nD × KI) : O₀ d (kcell ci) ()
    = N * ((∑ k : Fin 16, if ci = (peerX d, some (false, k)) then 1 else 0) + ∑ k : Fin 16, if ci = (peerY d, some (true, k)) then 1 else 0)
      + ((if ci = (peerY d, none) then 1 else 0) + if ci = (peerX d, none) then 1 else 0) := by
  unfold O₀ O₁ Orem
  rw [Pi.add_apply, Finsupp.add_apply, Pi.add_apply, Finsupp.add_apply, Pi.add_apply, Finsupp.add_apply, sum16, sum16, Finset.sum_apply, Finsupp.finset_sum_apply,
    Finset.sum_apply, Finsupp.finset_sum_apply, show barCell (peerY d) = kcell (peerY d, none) from rfl, show barCell (peerX d) = kcell (peerX d, none) from rfl,
    tally_kcell, tally_kcell, Finset.sum_congr rfl fun (k : Fin 16) _ => tally_kcell (peerX d, some (false, k)) ci N,
    Finset.sum_congr rfl fun (k : Fin 16) _ => tally_kcell (peerY d, some (true, k)) ci N, ← Finset.mul_sum, ← Finset.mul_sum, Nat.one_mul, Nat.one_mul, Nat.mul_add, Nat.add_assoc]

/-- The credit at a cell at launch is what its round takes. -/
theorem launch_at (ci : Dev nD × KI) (n : ℕ) (hn : n = if ci.2 = none then 2 else N) :
    tallyOn (kcell ci) (launchCredit (Pipeline.owing O₀) 0 (kcell ci)) = (tallyAt (kcell ci) () n : CellTallies nD τ sig Unit) := by
  unfold tallyAt; refine congrArg _ (Finsupp.ext fun u => ?_); cases u
  have h := cnt_eq ci
  unfold cntN cntB at h
  rw [Pipeline.launchCredit_owing, Finsupp.single_eq_same, Finset.sum_congr rfl fun d _ => owed_at d ci, Finset.sum_add_distrib, ← Finset.mul_sum, h.1, h.2, hn]
  by_cases h0 : ci.2 = none
  · rw [if_pos h0, if_pos h0, if_pos h0, Nat.mul_zero, Nat.zero_add]
  · rw [if_neg h0, if_neg h0, if_neg h0, Nat.mul_one, Nat.add_zero]

omit [FloatOps F] in
/-- A statement entails itself. -/
theorem same (P : sProp 𝕄) : P ⊢ P := by iintro H; iexact H

omit [FloatOps F] in
/-- A device's credit at launch: its barrier's two units and its receive cells' chunks. -/
theorem creds (c : Dev nD) : (Pipeline.launchCred O₀ c : sProp 𝕄) ⊢ iprop(cred (tallyAt (barCell c) () 2) ∗ Crd (F := F) c) := by
  unfold Pipeline.launchCred Crd
  rw [show (bigSep Finset.univ fun sm : SemLoc sig => (cred (tallyOn ((c : Thread nD τ), sm) (launchCredit (Pipeline.owing O₀) 0 ((c : Thread nD τ), sm))) : sProp 𝕄)) = _ from bigSep_sdiff_split (Finset.subset_univ (Finset.univ.map ⟨csem, csem_inj⟩)), bigSep_map, opt]
  refine sep_elim_left.trans ?_
  rw [← launch_at (c, none) 2 (if_pos rfl).symm]
  refine sep_mono_right (bigSep_mono fun i _ => ?_)
  obtain ⟨b, k⟩ := i
  dsimp only
  rw [rcell_eq c b k.isLt, ← launch_at (c, some (b, k)) N (if_neg (Option.some_ne_none _)).symm]
  exact same (F := F) _

/-! ## What the launch asks -/

omit [FloatOps F] in
/-- A whole buffer's contents, forgotten, with the set of its view or the set of all indices. -/
theorem some_whole (c : Dev nD) (b : Ref sig .tc) :
    (some_ (F := F) c (Memref.whole b) : sProp 𝕄) = iprop(∃ f : Buf (Elt F) ((c : Thread nD τ).loc b), ((c : Thread nD τ).loc b) ↦{fullShare} f) := by
  unfold some_
  rw [show (Memref.whole b).view.set = Finset.univ from View.set_whole b]
/-- The result's view is all of its buffer. -/
theorem out_set : outM.view.set = Finset.univ := View.set_whole main_v1

omit [FloatOps F] in
/-- The kernel's scratch buffers, whole. -/
theorem ScrAll_eq (c : Dev nD) : (Pipeline.scopedRest (Ix := Unit) (Name := ℕ) (U := UU) (Lvl := ℕ) (Val := Elt F) cfg0.spec c : sProp 𝕄) = ScrAll (F := F) c := by
  rw [show (Pipeline.scopedRest (Ix := Unit) (Name := ℕ) (U := UU) (Lvl := ℕ) (Val := Elt F) cfg0.spec c : sProp 𝕄) = _ from scopedRest0_eq c]
  unfold ScrAll mineM theirsM xsendM xrecvM ysendM yrecvM outcM
  rw [some_whole, some_whole, some_whole, some_whole, some_whole, some_whole, some_whole]

/-- What the launch gives a device is what the kernel starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  unfold start G' records linear payToks ghost
  rw [opt]
  iintro ⟨⟨HA, Hv⟩, #Hlev, Hcr, -, ⟨%K, ⟨#HI, #HR⟩, ⟨HatB, Hat⟩, ⟨⟨HtX, HtY⟩, HD⟩, Hls⟩⟩
  ihave Hc := (creds (F := F) c) $$ Hcr
  icases Hc with ⟨H1, HN⟩
  imodintro
  isplitl
  · isplitl [HatB Hat HtX HtY HD Hls]
    · iexists K
      isplitr
      · unfold Env
        isplitl; · iexact HI
        isplitl; · iexact HR
        iexact Hlev
      isplitl [HatB]; · iexact HatB
      isplitl [Hat]; · unfold Pos; iexact Hat
      isplitl [HtX]; · iexact HtX
      isplitl [HtY]; · iexact HtY
      isplitl [HD] <;> iassumption
    isplitl [H1]; · iexact H1
    isplitl [HN]; · iexact HN
    isplitl [HA]; · iexact HA
    iexists _
    rw [out_set]
    iexact Hv
  · iempintro

/-- With the scratch buffers this is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ScrAll_eq]
  unfold Φ₀
  iintro ⟨Hs, -, Hr⟩
  isplitl [Hs] <;> iassumption

/-- What is read at the end. -/
def Yc (c : Dev nD) : sProp 𝕄 := iprop((argL c ↦{fullShare} A0 m c) ∗ OutRes m c ∗ unscopedSems0 c)

/-- The state after the body gives what is read at the end, the semaphores and the scratch buffers. -/
theorem phi1_exit (c : Dev nD) : (dats m ρ 0 c).Φ (Fin.last cfg0.N) ⊢ iprop(Yc m c ∗ ownS (F := F) c ∗ Pipeline.scopedRest cfg0.spec c) := by
  rw [show (dats m ρ 0 c).Φ (Fin.last cfg0.N) = Φ₁ m c from rfl, ScrAll_eq, ownSems0_eq]
  unfold Φ₁ Yc
  rw [unscopedSems0_eq]
  iintro ⟨HA, HR, HS, Hl, Hr, HB⟩
  isplitl [HA HR HB]
  · isplitl [HA]; · iexact HA
    isplitl [HR] <;> iassumption
  isplitl [Hl Hr]
  · isplitl [Hr] <;> iassumption
  iexact HS

/-- The copies around the body may be waited for. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w; fin_cases s; decide +kernel) _ (by
      rcases t with ⟨_ | _, ht⟩
      · exact Or.inl rfl
      · exact Or.inr rfl)

/-! ## The run -/

/-- The rows of the result on device `c` are what it computes for them; its argument is unchanged. -/
def Good (c : Dev nD) (s : MemSt nD τ sig (Elt F)) : Prop :=
  s.mem (argL c) = A0 m c ∧ (∀ p : Bool × Fin 16, ReadsRes m c (s.mem (outM.view.loc (c : Thread nD τ))) (p.1, p.2.val))
    ∧ ∀ sm : SemLoc sig, sm.isScoped .tc = false → s.sem ((c.tc : Thread nD τ), sm) = 0

/-- What is held at the end says what the memory holds. -/
theorem read_end (c : Dev nD) (s' : Phys nD τ sig (Elt F)) : iprop(Yc m c ∗ iprop(emp) ∗ SI s') ⊢ |={Set.univ}=> iprop(⌜Good m c s'.mem⌝ ∗ SI s') := by
  unfold Yc OutRes
  rw [out_set]
  iintro ⟨⟨HA, ⟨%f, %hf, HR⟩, Hu⟩, -, HSI⟩
  icombine HSI HA gives %hA
  icombine HSI HR gives %hR
  imod (Pipeline.unscopedSems0_read (X := unscopedSems0 c) (c := c) fupd_intro s') $$ [Hu HSI] with ⟨%hz, HSI⟩
  · isplitl [Hu] <;> iassumption
  imodintro
  isplitr
  · ipureintro
    exact ⟨Buf.eq_of_forall_mem_univ hA, fun p => by rw [show s'.mem.mem (outM.view.loc (c : Thread nD τ)) = f from Buf.eq_of_forall_mem_univ hR]; exact hf p, hz⟩
  iexact HSI

set_option maxRecDepth 100000 in
/-- From any memory with zero counters the four devices' programs end; then on each device the argument and the weights
    are unchanged, the result's rows are what the device computes for them, and every semaphore counter is zero. -/
theorem run_main : θ_run defs (onTc (τ := τ) (main (F := F))) (s₀ m ρ) (fun r =>
    (∀ c : Dev nD, r.2.mem ((c : Thread nD τ).loc main_arg1) = m ((c : Thread nD τ).loc main_arg1) ∧ Good m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m c ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := Yc m) (Z := fun _ => iprop(emp))
    (hX := start_intro m ρ) (hin := phi0_intro m ρ) (hout := phi1_exit m ρ)
    (QY := Good m) (hY := read_end m)
    (hQ := fun _ h hs => ⟨fun c => ⟨((h c).1 0).trans ((dats (F := F) m ρ 0 c).arrAt_in (0 : Fin 1) rfl _), (h c).2.2⟩, sem_eq_zero hs fun c => (h c).2.2.2.2⟩)

end Cert.KernelIdeal.Ring

end
-- ==== Proof.Value.lean ====
/- The values on ideal reals: a row of the kernel's result, a row of the reference's, and that they are the same. -/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.KernelIdeal.Ring

open Cert.KernelIdeal Cert.KernelIdeal.Gen
open Idealize.ShloMosaic Idealize.ShloMosaic.TcCoe Idealize.SL.Sem

/-! ## Extended reals -/

/-- The width of a row, 4096, as both programs spell it; the small term under the root. -/
abbrev width : EReal := Ideal.ofBits .f32 0x45800000#32
abbrev eps : EReal := Ideal.ofBits .f32 0x358637BD#32

/-- The width is the real number 4096. -/
theorem width_eq : width = ((4096 : ℝ) : EReal) := by
  simp [width, Ideal.ofBits, Ideal.ieee, -EReal.coe_mul]; norm_num
/-- The small term is positive. -/
theorem eps_pos : 0 < eps := by
  have h : eps = ((8796093 * (2 : ℝ) ^ (-43 : ℤ) : ℝ) : EReal) := by
    simp [eps, Ideal.ofBits, Ideal.ieee, -EReal.coe_mul]
  rw [h]
  exact_mod_cast (by positivity : (0 : ℝ) < 8796093 * (2 : ℝ) ^ (-43 : ℤ))

/-- A square is never negative, also of an infinite value. -/
theorem sq_nonneg (s : EReal) : 0 ≤ s * s := by
  induction s with
  | bot => simp
  | top => simp
  | coe r => rw [← EReal.coe_mul]; exact_mod_cast mul_self_nonneg r

/-- The mean of the squares of a row, and the small term. -/
def under (s : Fin 4096 → EReal) : EReal := Ideal.div (∑ k, s k * s k) width + eps

/-- What stands under the root is positive. -/
theorem under_pos (s : Fin 4096 → EReal) : 0 < under s := by
  unfold under
  have h0 : (0 : EReal) ≤ ∑ k, s k * s k := Finset.sum_nonneg fun k _ => sq_nonneg (s k)
  have h1 : (0 : EReal) ≤ Ideal.div (∑ k, s k * s k) width := by
    rw [width_eq, Ideal.div_coe (by norm_num : (4096 : ℝ) ≠ 0)]
    exact mul_nonneg h0 (by exact_mod_cast (by norm_num : (0 : ℝ) ≤ 1 / 4096))
  exact lt_of_lt_of_le eps_pos (le_add_of_nonneg_left h1)

/-- Dividing by the root is multiplying by its reciprocal, above zero. -/
theorem div_sqrt (s v : EReal) (h : 0 < v) : Ideal.div s (Ideal.sqrt v) = s * Ideal.rsqrt v := by
  induction v with
  | bot => exact absurd h (by simp)
  | top => rw [Ideal.sqrt_top, Ideal.rsqrt_top, Ideal.div, if_neg (by simp), EReal.inv_top]
  | coe r =>
    have hr : 0 < r := by exact_mod_cast h
    rw [Ideal.sqrt_coe, Ideal.rsqrt_coe, if_neg hr.le.not_gt, if_neg hr.le.not_gt, if_neg hr.ne', Ideal.div_coe (Real.sqrt_pos.mpr hr).ne', one_div]

/-- A row `s`, normalised and weighted by `g`. -/
def normAt (s g : Fin 4096 → EReal) (l : Fin 4096) : EReal := s l * Ideal.rsqrt (under s) * g l

/-! ## The kernel's chunk -/

/-- A chunk the kernel computes, at an index: its row is the sum of the two parts, normalised and weighted. -/
theorem opay_at (g : FVec Ideal S4096 .f32) (v : Vec Ideal S1x128x4096 .f32) (x : Vec Ideal S128x4096 .bf16) (r : Fin 128) (l : Fin 4096) :
    opay (F := Ideal) g v x (ix2 r l) = normAt (fun k => v (ix3 0 r k) + x (ix2 r k)) (fun k => g (ix1 k)) l := by
  unfold opay normAt under
  pointwise [k0_pay8]

/-- A matrix with a leading axis of one, at an index. -/
theorem scast_at (v : Vec Ideal S128x4096 .f32) (r : Fin 128) (l : Fin 4096) : scast (F := Ideal) v (ix3 0 r l) = v (ix2 r l) := by
  pointwise [scast]
/-- What is sent in the first exchange: over the reals narrowing changes nothing. -/
theorem xv_at (v : Vec Ideal S128x4096 .f32) (r : Fin 128) (l : Fin 4096) : smat (F := Ideal) (e := .bf16) (xpay (scast v)) (ix2 r l) = v (ix2 r l) := by
  unfold xpay
  pointwise [smat, k0_pay2, scast]
/-- What is sent in the second exchange, widened and stored: over the reals nothing changes. -/
theorem yv_at (v : FVec Ideal S128x4096 .f32) (r : Fin 128) (l : Fin 4096) :
    smat (F := Ideal) (e := .f32) (slotPay (wide (smat (e := .bf16) (ypay v)))) (ix2 r l) = v (ix2 r l) := by
  unfold slotPay wide ypay
  pointwise [smat, k0_pay92, k0_pay91, k0_pay10]
/-- What is stored of the own half. -/
theorem zv_at (v : FVec Ideal S128x4096 .f32) (r : Fin 128) (l : Fin 4096) :
    smat (F := Ideal) (e := .f32) (slotPay v) (ix2 r l) = v (ix2 r l) := by
  unfold slotPay
  pointwise [smat, k0_pay92]

/-! ## The reference's row -/

abbrev refTerm (V : FVec Ideal Cert.ReferenceIdeal.S2x8192x4096 .f32) (G : FVec Ideal Cert.ReferenceIdeal.S4096 .f32) : FVec Ideal Cert.ReferenceIdeal.S8192x4096 .f32 :=
  open Cert.ReferenceIdeal Cert.ReferenceIdeal.Gen in
  mulf (Host.divf (Host.reduceAdd V (constant S_ .f32 0x00000000#32) reducesTo_S2x8192x4096_S8192x4096_d0 h_S_) (broadcastInDim S8192x4096 ![0, 1] bcast_S8192x1_S8192x4096_0_1 (Host.sqrt (addf (Host.divf (broadcastInDim S8192x1 ![0] bcast_S8192_S8192x1_0 (Host.reduceAdd (mulf (Host.reduceAdd V (constant S_ .f32 0x00000000#32) reducesTo_S2x8192x4096_S8192x4096_d0 h_S_) (Host.reduceAdd V (constant S_ .f32 0x00000000#32) reducesTo_S2x8192x4096_S8192x4096_d0 h_S_)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 G))

/-- The sum of the two partial rows. -/
def both (V : FVec Ideal Cert.ReferenceIdeal.S2x8192x4096 .f32) (row : Fin 8192) (l : Fin 4096) : EReal := V (ix3 0 row l) + V (ix3 1 row l)

/-- The reference at an index: the row's sum, normalised and weighted. -/
theorem ref_at (V : FVec Ideal Cert.ReferenceIdeal.S2x8192x4096 .f32) (G : FVec Ideal Cert.ReferenceIdeal.S4096 .f32) (row : Fin 8192) (l : Fin 4096) :
    refTerm V G (ix2 row l) = normAt (both V row) (fun k => G (ix1 k)) l := by
  unfold normAt
  rw [← div_sqrt _ _ (under_pos _)]
  unfold refTerm under both
  pointwise
  simp only [Fin.sum_univ_two, zero_add]

/-! ## Chunks of the arguments, in the whole arrays -/

variable (m : (ℓ : Loc nD τ sig) → Buf (Elt Ideal) ℓ)
variable (V : FVec Ideal Cert.ReferenceIdeal.S2x8192x4096 .f32) (G : FVec Ideal Cert.ReferenceIdeal.S4096 .f32)

/-- A matrix without its leading axis of one, at an index. -/
theorem smat_at (v : Vec Ideal S1x128x4096 .f32) (r : Fin 128) (l : Fin 4096) : smat (F := Ideal) v (ix2 r l) = v (ix3 0 r l) := by
  pointwise [smat]

/-- A slice of the argument at an offset `n` along the rows, read at a row. -/
theorem slice_at (c : Dev nD) (off : Fin 3 → ℕ) (n : ℕ) (h : off = ![0, n, 0]) (inb : ∀ a, off a + S1x128x4096.size a ≤ S1x8192x4096.size a)
    (r : Fin 128) (l : Fin 4096) (row : Fin 8192) (hrow : row.val = n + r.val) :
    ((argM.slice (Rect.unit (s := S1x8192x4096) off S1x128x4096.size inb) (fun _ => rfl)).squeeze S128x4096 squeezes_S1x128x4096_S128x4096).view.read (Elt Ideal) (A0 m c) (ix2 r l)
      = A0 m c (ix3 0 row l) := by
  subst h
  refine (smat_at (argM.view.readAt (Elt Ideal) (Rect.unit (s := S1x8192x4096) ![0, n, 0] S1x128x4096.size inb).toLoadRect (A0 m c)) r l).trans ?_
  refine congrArg (A0 m c) (funext fun a => Fin.ext ?_)
  match a with
  | ⟨0, _⟩ => rfl
  | ⟨1, _⟩ => show n + 1 * r.val = row.val; omega
  | ⟨2, _⟩ => show 0 + 1 * l.val = l.val; omega

/-- A chunk of the half a device keeps, at an index. -/
theorem mch_at (c : Dev nD) (j : Fin 16) (r : Fin 128) (l : Fin 4096) (row : Fin 8192)
    (hrow : row.val = 4096 * (c.val / 2) + 2048 * (c.val % 2) + 128 * j.val + r.val) : mch m c j.val (ix2 r l) = A0 m c (ix3 0 row l) :=
  slice_at m c _ _ (by rw [Nat.mod_eq_of_lt j.isLt]; exact k0_off1_eq c j) _ r l row hrow

/-- A chunk of the half a device gives away, at an index. -/
theorem tch_at (c : Dev nD) (j : Fin 16) (r : Fin 128) (l : Fin 4096) (row : Fin 8192)
    (hrow : row.val = 2048 * (c.val % 2) + 128 * j.val + 4096 - 4096 * (c.val / 2) + r.val) : tch m c j.val (ix2 r l) = A0 m c (ix3 0 row l) :=
  slice_at m c _ _ (by rw [Nat.mod_eq_of_lt j.isLt]; exact k0_off2_eq c j) _ r l row hrow

/-- A row of the argument on device `c`. -/
def arow (c : Dev nD) (row : Fin 8192) (l : Fin 4096) : EReal := A0 m c (ix3 0 row l)

/-- The weights as loaded are the weights. -/
theorem gv_at (c : Dev nD) (k : Fin 4096) : gv m c (ix1 k) = m ((c : Thread nD τ).loc main_arg1) (ix1 k) := by
  have hw : ∀ v : FVec Ideal S4096 .f32, k0_pay1 (F := Ideal) v (ix1 k) = v (ix1 k) := fun v => by pointwise [k0_pay1]
  unfold gv
  refine (hw _).trans ?_
  refine congrArg (m ((c : Thread nD τ).loc main_arg1)) (funext fun a => Fin.ext ?_)
  match a with
  | ⟨0, _⟩ =>
    have h : (win0_0.rect (0 : Fin 1)).off 0 = 0 := by decide +kernel
    show (win0_0.rect (0 : Fin 1)).off 0 + 1 * (0 + 1 * k.val) = k.val
    omega

/-- The arguments are the parts of `V` and `G` the mesh gives each device. -/
def Agree : Prop := ∀ c : Dev nD,
  m ((c.tc : Thread nD τ).loc main_arg0) = Layout.blockN ⟨3, ![1, 8192, 4096]⟩ ⟨3, ![2, 8192, 4096]⟩ (Layout.meshBlock [2, 2] ![[0], [], []] c) V
  ∧ m ((c.tc : Thread nD τ).loc main_arg1) = G

variable {m V G}

/-- Device `c` holds the partial rows of its first coordinate. -/
theorem arg_at (h : Agree m V G) (c : Dev nD) (x : Fin 2) (hx : x.val = c.val / 2) (row : Fin 8192) (l : Fin 4096) :
    A0 m c (ix3 0 row l) = V (ix3 x row l) := by
  have hc : ((Layout.meshBlock [2, 2] ![[0], [], []] c) 0).val = c.val / 2 := (by decide : ∀ c : Dev nD, ((Layout.meshBlock [2, 2] ![[0], [], []] c) 0).val = c.val / 2) c
  have hc1 : ((Layout.meshBlock [2, 2] ![[0], [], []] c) 1).val = 0 := (by decide : ∀ c : Dev nD, ((Layout.meshBlock [2, 2] ![[0], [], []] c) 1).val = 0) c
  have hc2 : ((Layout.meshBlock [2, 2] ![[0], [], []] c) 2).val = 0 := (by decide : ∀ c : Dev nD, ((Layout.meshBlock [2, 2] ![[0], [], []] c) 2).val = 0) c
  unfold A0
  rw [(h c).1, Layout.blockN_apply]
  refine congrArg V (funext fun a => Fin.ext ?_)
  match a with
  | ⟨0, _⟩ => show ((Layout.meshBlock [2, 2] ![[0], [], []] c) 0).val * 1 + 0 = x.val; omega
  | ⟨1, _⟩ => show ((Layout.meshBlock [2, 2] ![[0], [], []] c) 1).val * 8192 + row.val = row.val; omega
  | ⟨2, _⟩ => show ((Layout.meshBlock [2, 2] ![[0], [], []] c) 2).val * 4096 + l.val = l.val; omega

/-- The partial row a device keeps and the one its neighbour gives it are the two parts of the sum. -/
theorem sum_at (h : Agree m V G) (c : Dev nD) (row : Fin 8192) (l : Fin 4096) :
    arow m c row l + arow m (peerX c) row l = both V row l := by
  unfold both arow
  have hlt : c.val < 4 := c.isLt
  have hp : (peerX c).val = (c.val + 2) % 4 := rfl
  by_cases hc : c.val < 2
  · rw [arg_at h c 0 (by show 0 = c.val / 2; omega), arg_at h (peerX c) 1 (by show 1 = (peerX c).val / 2; omega)]
  · rw [arg_at h c 1 (by show 1 = c.val / 2; omega), arg_at h (peerX c) 0 (by show 0 = (peerX c).val / 2; omega), add_comm]

/-- A row of the half device `c` computes. -/
theorem oval_at (h : Agree m V G) (c : Dev nD) (j : Fin 16) (r : Fin 128) (l : Fin 4096) (row : Fin 8192)
    (hrow : row.val = 4096 * (c.val / 2) + 2048 * (c.val % 2) + 128 * j.val + r.val) :
    oval m c j.val (ix2 r l) = refTerm V G (ix2 row l) := by
  have hlt : c.val < 4 := c.isLt
  have hp : (peerX c).val = (c.val + 2) % 4 := rfl
  rw [ref_at]
  unfold oval xv
  rw [opay_at]
  have e1 : (fun k => scast (mch m c j.val) (ix3 0 r k) + smat (xpay (scast (tch m (peerX c) j.val))) (ix2 r k)) = both V row :=
    funext fun k => (congrArg₂ (fun a b : EReal => a + b) ((scast_at _ r k).trans (mch_at m c j r k row hrow))
      ((xv_at _ r k).trans (tch_at m (peerX c) j r k row (by omega)))).trans (sum_at h c row k)
  have e2 : (fun k => gv m c (ix1 k)) = fun k => G (ix1 k) := funext fun k => by rw [gv_at, ← (h c).2]
  exact congrFun (congrArg₂ normAt e1 e2) l

/-- A row of either half of the result. -/
theorem res_at (h : Agree m V G) (c : Dev nD) (b : Bool) (j : Fin 16) (r : Fin 128) (l : Fin 4096) (row : Fin 8192)
    (hrow : row.val = 4096 * (c.val / 2) + (base c b + 128 * j.val + r.val)) :
    res m c (b, j.val) (ix2 r l) = refTerm V G (ix2 row l) := by
  have hlt : c.val < 4 := c.isLt
  have hp : (peerY c).val = (2 * (c.val / 2) + 1 - c.val % 2) % 4 := rfl
  cases b
  · dsimp only [base] at hrow
    exact (zv_at (oval m c j.val) r l).trans <| oval_at h c j r l row (by omega)
  · dsimp only [base] at hrow
    exact (yv_at (oval m (peerY c) j.val) r l).trans <| oval_at h (peerY c) j r l row (by omega)

/-- What a chunk of the result reads as, at one of its rows. -/
theorem row_at (c : Dev nD) (f : Buf (Elt Ideal) (outM.view.loc (c : Thread nD τ))) (b : Bool) (j : Fin 16) (hf : ReadsRes m c f (b, j.val))
    (r : Fin 128) (l : Fin 4096) (a : Fin 4096) (ha : a.val = base c b + 128 * j.val + r.val) : f (ix2 a l) = res m c (b, j.val) (ix2 r l) := by
  have key : ∀ (off : Fin 2 → ℕ) (n : ℕ) (h : off = ![n, 0]) (inb : ∀ a, off a + S128x4096.size a ≤ S4096x4096.size a), a.val = n + r.val →
      f (ix2 a l) = (outM.slice (Rect.unit (s := S4096x4096) off S128x4096.size inb) (fun _ => rfl)).view.read (Elt Ideal) f (ix2 r l) := by
    rintro off n rfl inb hn
    refine congrArg f (funext fun i => Fin.ext ?_)
    match i with
    | ⟨0, _⟩ => show a.val = n + 1 * r.val; omega
    | ⟨1, _⟩ => show l.val = 0 + 1 * l.val; omega
  have hy : c.val % 2 < 2 := Nat.mod_lt _ (by decide)
  cases b
  · rw [← show _ = res m c (false, j.val) from hf]
    exact key _ _ (by rw [Nat.mod_eq_of_lt j.isLt]; exact k0_off3_eq c j) _ (by dsimp only [base] at ha; omega)
  · rw [← show _ = res m c (true, j.val) from hf]
    exact key _ _ (by rw [Nat.mod_eq_of_lt j.isLt]; exact k0_off4_eq c j) _ (by dsimp only [base] at ha; omega)

/-- The result on device `c` is its part of the reference's. -/
theorem result (h : Agree m V G) (c : Dev nD) (f : Buf (Elt Ideal) (outM.view.loc (c : Thread nD τ))) (hf : ∀ p : Bool × Fin 16, ReadsRes m c f (p.1, p.2.val)) :
    f = Layout.blockN ⟨2, ![4096, 4096]⟩ ⟨2, ![8192, 4096]⟩ (Layout.meshBlock [2, 2] ![[0], []] c) (refTerm V G) := by
  have hc : ((Layout.meshBlock [2, 2] ![[0], []] c) 0).val = c.val / 2 := (by decide : ∀ c : Dev nD, ((Layout.meshBlock [2, 2] ![[0], []] c) 0).val = c.val / 2) c
  have hc1 : ((Layout.meshBlock [2, 2] ![[0], []] c) 1).val = 0 := (by decide : ∀ c : Dev nD, ((Layout.meshBlock [2, 2] ![[0], []] c) 1).val = 0) c
  have hlt : c.val < 4 := c.isLt
  funext i
  obtain ⟨⟨b, j⟩, hp⟩ := (tileO c).cov i
  rw [mem_orect] at hp
  dsimp only at hp
  have h0 : (i 0).val < 4096 := (i 0).isLt
  rw [Layout.blockN_apply]
  refine (congrArg f (eq_ix2 i)).trans ?_
  refine (row_at c f b j (hf (b, j)) ⟨(i 0).val - (base c b + 128 * j.val), by omega⟩ (i 1) (i 0) (by dsimp only; omega)).trans ?_
  refine (res_at h c b j _ (i 1) ⟨4096 * (c.val / 2) + (i 0).val, by omega⟩ (by dsimp only; omega)).trans ?_
  refine congrArg (refTerm V G) (funext fun a => Fin.ext ?_)
  match a with
  | ⟨0, _⟩ => show 4096 * (c.val / 2) + (i 0).val = ((Layout.meshBlock [2, 2] ![[0], []] c) 0).val * 4096 + (i 0).val; omega
  | ⟨1, _⟩ => show (i 1).val = ((Layout.meshBlock [2, 2] ![[0], []] c) 1).val * 4096 + (i 1).val; omega

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Kernel.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the chip's floats: its arguments end unchanged and every semaphore counter at zero. -/
theorem frame_p : Cert.quiescent_Kernel := fun m ρ _ =>
  (θ_run Cert.Kernel.defs _ _).mono (fun _ h => ⟨fun c => ⟨(h.1 c).2.1, (h.1 c).1⟩, h.2⟩) (Cert.Kernel.Ring.run_main m ρ)

/-- The same of the kernel on ideal reals. -/
theorem frame_pi : Cert.quiescent_KernelIdeal := fun m ρ _ =>
  (θ_run Cert.KernelIdeal.defs _ _).mono (fun _ h => ⟨fun c => ⟨(h.1 c).2.1, (h.1 c).1⟩, h.2⟩) (Cert.KernelIdeal.Ring.run_main m ρ)

/-- The same of the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On ideal reals each device's result ends as its part of the reference's. -/
theorem algebraic : Cert.algebraic_KernelIdeal_ReferenceIdeal := by
  intro m g m' g' _ hagree
  refine ⟨_, (θ_run Cert.KernelIdeal.defs _ _).mono (fun r h c =>
      ⟨Cert.KernelIdeal.Ring.result hagree c _ (h.1 c).2.2.1, (h.1 c).2.1, (h.1 c).1⟩) (Cert.KernelIdeal.Ring.run_main m g),
    (θ_run Cert.ReferenceIdeal.defs _ _).mono (fun r h => h 0) (Cert.ReferenceIdeal.Value.run (F := Ideal) m' g')⟩

/-- The five claims together, with the witnesses of the programs' stated facts. -/
theorem claim : Cert.Claim := ⟨Cert.Kernel.Gen.facts, Cert.KernelIdeal.Gen.facts, Cert.ReferenceIdeal.Gen.facts,
  frame_p, frame_pi, frame_ri, trivial, algebraic⟩

end Cert.Proof

end
